-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v34)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v34) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v93) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x5000 : Shape := ⟨2, ![8, 5000]⟩
abbrev S8x5000x4 : Shape := ⟨3, ![8, 5000, 4]⟩
abbrev S8x2500 : Shape := ⟨2, ![8, 2500]⟩
abbrev S8x2500x1 : Shape := ⟨3, ![8, 2500, 1]⟩
abbrev S8x2500x4 : Shape := ⟨3, ![8, 2500, 4]⟩
abbrev S_ : Shape := ⟨0, ![]⟩
abbrev S8x2500x4x1 : Shape := ⟨4, ![8, 2500, 4, 1]⟩
abbrev S1 : Shape := ⟨1, ![1]⟩
abbrev S1x1x1x1 : Shape := ⟨4, ![1, 1, 1, 1]⟩
abbrev S8x2560 : Shape := ⟨2, ![8, 2560]⟩
abbrev S8x1x2560 : Shape := ⟨3, ![8, 1, 2560]⟩
abbrev S8x5x2560 : Shape := ⟨3, ![8, 5, 2560]⟩
abbrev S8x20x128 : Shape := ⟨3, ![8, 20, 128]⟩
abbrev S8x5x256 : Shape := ⟨3, ![8, 5, 256]⟩
abbrev S1x20x128 : Shape := ⟨3, ![1, 20, 128]⟩
abbrev S1x5x2560 : Shape := ⟨3, ![1, 5, 2560]⟩
abbrev S1x1x2560 : Shape := ⟨3, ![1, 1, 2560]⟩
abbrev S1x5x256 : Shape := ⟨3, ![1, 5, 256]⟩
abbrev S20x128 : Shape := ⟨2, ![20, 128]⟩
abbrev S1x256 : Shape := ⟨2, ![1, 256]⟩
abbrev S1x1x1 : Shape := ⟨3, ![1, 1, 1]⟩
abbrev S1x1x256 : Shape := ⟨3, ![1, 1, 256]⟩
abbrev S2560x256 : Shape := ⟨2, ![2560, 256]⟩
abbrev S5x2560 : Shape := ⟨2, ![5, 2560]⟩
abbrev S5x256 : Shape := ⟨2, ![5, 256]⟩
abbrev S8x1x200 : Shape := ⟨3, ![8, 1, 200]⟩
abbrev S8x200 : Shape := ⟨2, ![8, 200]⟩
abbrev S8x4x200 : Shape := ⟨3, ![8, 4, 200]⟩
abbrev S8x200x4 : Shape := ⟨3, ![8, 200, 4]⟩

abbrev nBuf : Space → Nat
  | .hbm => 70
  | .vmem => 14
  | .smem => 8
  | _ => 0

abbrev bufTy : (tb : Table) → Fin (tcTables nBuf tb) → BufTy
  | .hbm, ⟨0, _⟩ => ⟨S8x5000, .f32⟩
  | .hbm, ⟨1, _⟩ => ⟨S8x5000x4, .f32⟩
  | .hbm, ⟨2, _⟩ => ⟨S8x2500, .f32⟩
  | .hbm, ⟨3, _⟩ => ⟨S8x2500, .i32⟩
  | .hbm, ⟨4, _⟩ => ⟨S8x2500x1, .i32⟩
  | .hbm, ⟨5, _⟩ => ⟨S8x2500x4, .i32⟩
  | .hbm, ⟨6, _⟩ => ⟨S_, .i32⟩
  | .hbm, ⟨7, _⟩ => ⟨S8x2500x4, .i32⟩
  | .hbm, ⟨8, _⟩ => ⟨S8x2500x4, .i1⟩
  | .hbm, ⟨9, _⟩ => ⟨S_, .i32⟩
  | .hbm, ⟨10, _⟩ => ⟨S8x2500x4, .i32⟩
  | .hbm, ⟨11, _⟩ => ⟨S8x2500x4, .i32⟩
  | .hbm, ⟨12, _⟩ => ⟨S8x2500x4, .i32⟩
  | .hbm, ⟨13, _⟩ => ⟨S8x2500x4x1, .i32⟩
  | .hbm, ⟨14, _⟩ => ⟨S1, .i32⟩
  | .hbm, ⟨15, _⟩ => ⟨S_, .i32⟩
  | .hbm, ⟨16, _⟩ => ⟨S8x2500x4x1, .i32⟩
  | .hbm, ⟨17, _⟩ => ⟨S8x2500x4x1, .i1⟩
  | .hbm, ⟨18, _⟩ => ⟨S1x1x1x1, .i32⟩
  | .hbm, ⟨19, _⟩ => ⟨S8x2500x4x1, .i32⟩
  | .hbm, ⟨20, _⟩ => ⟨S8x2500x4x1, .i1⟩
  | .hbm, ⟨21, _⟩ => ⟨S8x2500x4x1, .i1⟩
  | .hbm, ⟨22, _⟩ => ⟨S_, .i1⟩
  | .hbm, ⟨23, _⟩ => ⟨S8x2500x4, .i1⟩
  | .hbm, ⟨24, _⟩ => ⟨S8x2500x4, .f32⟩
  | .hbm, ⟨25, _⟩ => ⟨S_, .f32⟩
  | .hbm, ⟨26, _⟩ => ⟨S8x2500x4, .f32⟩
  | .hbm, ⟨27, _⟩ => ⟨S8x2500x4, .f32⟩
  | .hbm, ⟨28, _⟩ => ⟨S_, .i32⟩
  | .hbm, ⟨29, _⟩ => ⟨S_, .f32⟩
  | .hbm, ⟨30, _⟩ => ⟨S8x2560, .f32⟩
  | .hbm, ⟨31, _⟩ => ⟨S8x2500x1, .f32⟩
  | .hbm, ⟨32, _⟩ => ⟨S8x2500, .f32⟩
  | .hbm, ⟨33, _⟩ => ⟨S_, .i32⟩
  | .hbm, ⟨34, _⟩ => ⟨S_, .f32⟩
  | .hbm, ⟨35, _⟩ => ⟨S8x2560, .f32⟩
  | .hbm, ⟨36, _⟩ => ⟨S8x2500x1, .f32⟩
  | .hbm, ⟨37, _⟩ => ⟨S8x2500, .f32⟩
  | .hbm, ⟨38, _⟩ => ⟨S_, .i32⟩
  | .hbm, ⟨39, _⟩ => ⟨S_, .f32⟩
  | .hbm, ⟨40, _⟩ => ⟨S8x2560, .f32⟩
  | .hbm, ⟨41, _⟩ => ⟨S8x2500x1, .f32⟩
  | .hbm, ⟨42, _⟩ => ⟨S8x2500, .f32⟩
  | .hbm, ⟨43, _⟩ => ⟨S_, .i32⟩
  | .hbm, ⟨44, _⟩ => ⟨S_, .f32⟩
  | .hbm, ⟨45, _⟩ => ⟨S8x2560, .f32⟩
  | .hbm, ⟨46, _⟩ => ⟨S8x2500x1, .f32⟩
  | .hbm, ⟨47, _⟩ => ⟨S8x2500, .f32⟩
  | .hbm, ⟨48, _⟩ => ⟨S_, .i32⟩
  | .hbm, ⟨49, _⟩ => ⟨S_, .f32⟩
  | .hbm, ⟨50, _⟩ => ⟨S8x2560, .f32⟩
  | .hbm, ⟨51, _⟩ => ⟨S8x1x2560, .f32⟩
  | .hbm, ⟨52, _⟩ => ⟨S8x1x2560, .f32⟩
  | .hbm, ⟨53, _⟩ => ⟨S8x1x2560, .f32⟩
  | .hbm, ⟨54, _⟩ => ⟨S8x1x2560, .f32⟩
  | .hbm, ⟨55, _⟩ => ⟨S8x1x2560, .f32⟩
  | .hbm, ⟨56, _⟩ => ⟨S8x5x2560, .f32⟩
  | .hbm, ⟨57, _⟩ => ⟨S8x20x128, .f32⟩
  | .hbm, ⟨58, _⟩ => ⟨S8x20x128, .f32⟩
  | .hbm, ⟨59, _⟩ => ⟨S8x20x128, .f32⟩
  | .hbm, ⟨60, _⟩ => ⟨S8x20x128, .f32⟩
  | .hbm, ⟨61, _⟩ => ⟨S8x1x2560, .f32⟩
  | .hbm, ⟨62, _⟩ => ⟨S8x1x2560, .f32⟩
  | .hbm, ⟨63, _⟩ => ⟨S8x1x2560, .f32⟩
  | .hbm, ⟨64, _⟩ => ⟨S8x1x2560, .f32⟩
  | .hbm, ⟨65, _⟩ => ⟨S8x5x256, .f32⟩
  | .hbm, ⟨66, _⟩ => ⟨S8x1x200, .f32⟩
  | .hbm, ⟨67, _⟩ => ⟨S8x200, .f32⟩
  | .hbm, ⟨68, _⟩ => ⟨S8x4x200, .f32⟩
  | .hbm, ⟨69, _⟩ => ⟨S8x200x4, .f32⟩
  | .local _ .vmem, ⟨0, _⟩ => ⟨S1x20x128, .f32⟩
  | .local _ .vmem, ⟨1, _⟩ => ⟨S1x20x128, .f32⟩
  | .local _ .vmem, ⟨2, _⟩ => ⟨S1x20x128, .f32⟩
  | .local _ .vmem, ⟨3, _⟩ => ⟨S1x20x128, .f32⟩
  | .local _ .vmem, ⟨4, _⟩ => ⟨S1x20x128, .f32⟩
  | .local _ .vmem, ⟨5, _⟩ => ⟨S1x20x128, .f32⟩
  | .local _ .vmem, ⟨6, _⟩ => ⟨S1x20x128, .f32⟩
  | .local _ .vmem, ⟨7, _⟩ => ⟨S1x20x128, .f32⟩
  | .local _ .vmem, ⟨8, _⟩ => ⟨S1x5x2560, .f32⟩
  | .local _ .vmem, ⟨9, _⟩ => ⟨S1x5x2560, .f32⟩
  | .local _ .vmem, ⟨10, _⟩ => ⟨S1x5x256, .f32⟩
  | .local _ .vmem, ⟨11, _⟩ => ⟨S1x5x256, .f32⟩
  | .local _ .vmem, ⟨12, _⟩ => ⟨S20x128, .i32⟩
  | .local _ .vmem, ⟨13, _⟩ => ⟨S1x256, .i32⟩
  | .local _ .smem, ⟨0, _⟩ => ⟨S1x1x2560, .f32⟩
  | .local _ .smem, ⟨1, _⟩ => ⟨S1x1x2560, .f32⟩
  | .local _ .smem, ⟨2, _⟩ => ⟨S1x1x2560, .f32⟩
  | .local _ .smem, ⟨3, _⟩ => ⟨S1x1x2560, .f32⟩
  | .local _ .smem, ⟨4, _⟩ => ⟨S1x1x2560, .f32⟩
  | .local _ .smem, ⟨5, _⟩ => ⟨S1x1x2560, .f32⟩
  | .local _ .smem, ⟨6, _⟩ => ⟨S1x1x2560, .f32⟩
  | .local _ .smem, ⟨7, _⟩ => ⟨S1x1x2560, .f32⟩
  | _, _ => ⟨S8x5000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | .smem, ⟨6, _⟩ => true
  | .smem, ⟨7, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_call0_c : Ref sig .tc := ⟨.hbm, 6, rfl⟩
abbrev main_call0_v0 : Ref sig .tc := ⟨.hbm, 7, rfl⟩
abbrev main_call0_v1 : Ref sig .tc := ⟨.hbm, 8, rfl⟩
abbrev main_call0_c_0 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_v5 : Ref sig .tc := ⟨.hbm, 13, rfl⟩
abbrev main_call0_c_1 : Ref sig .tc := ⟨.hbm, 14, rfl⟩
abbrev main_call0_c_2 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_3 : Ref sig .tc := ⟨.hbm, 22, rfl⟩
abbrev main_call0_v12 : Ref sig .tc := ⟨.hbm, 23, rfl⟩
abbrev main_call0_v13 : Ref sig .tc := ⟨.hbm, 24, rfl⟩
abbrev main_call0_cst : Ref sig .tc := ⟨.hbm, 25, rfl⟩
abbrev main_call0_v14 : Ref sig .tc := ⟨.hbm, 26, rfl⟩
abbrev main_v2 : Ref sig .tc := ⟨.hbm, 27, rfl⟩
abbrev main_c : Ref sig .tc := ⟨.hbm, 28, rfl⟩
abbrev main_call1_v0 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_c_0 : Ref sig .tc := ⟨.hbm, 33, rfl⟩
abbrev main_call2_v0 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_c_1 : Ref sig .tc := ⟨.hbm, 38, rfl⟩
abbrev main_call3_v0 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_c_2 : Ref sig .tc := ⟨.hbm, 43, rfl⟩
abbrev main_call4_v0 : Ref sig .tc := ⟨.hbm, 44, rfl⟩
abbrev main_v12 : Ref sig .tc := ⟨.hbm, 45, rfl⟩
abbrev main_v13 : Ref sig .tc := ⟨.hbm, 46, rfl⟩
abbrev main_v14 : Ref sig .tc := ⟨.hbm, 47, rfl⟩
abbrev main_c_3 : Ref sig .tc := ⟨.hbm, 48, rfl⟩
abbrev main_call5_v0 : Ref sig .tc := ⟨.hbm, 49, rfl⟩
abbrev main_v15 : Ref sig .tc := ⟨.hbm, 50, rfl⟩
abbrev main_v16 : Ref sig .tc := ⟨.hbm, 51, rfl⟩
abbrev main_v17 : Ref sig .tc := ⟨.hbm, 52, rfl⟩
abbrev main_v18 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_stg5_0 : Ref sig .tc := ⟨.smem, 0, rfl⟩
abbrev cc0_stg5_1 : Ref sig .tc := ⟨.smem, 1, rfl⟩
abbrev cc0_stg6_0 : Ref sig .tc := ⟨.smem, 2, rfl⟩
abbrev cc0_stg6_1 : Ref sig .tc := ⟨.smem, 3, rfl⟩
abbrev cc0_stg7_0 : Ref sig .tc := ⟨.smem, 4, rfl⟩
abbrev cc0_stg7_1 : Ref sig .tc := ⟨.smem, 5, rfl⟩
abbrev cc0_stg8_0 : Ref sig .tc := ⟨.smem, 6, rfl⟩
abbrev cc0_stg8_1 : Ref sig .tc := ⟨.smem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

def k0_off1 (arg13 : BitVec 32) : Fin 3 → Nat :=
  let c0_37 : Index := 0#32
  let c0_38 : Index := 0#32
  let v77 : Index := Scalar.indexCast arg13
  ![0, 0, v77.toNat]
def k0_cond1 (v71 : BitVec 32) : BitVec 1 :=
  let c0_i32_34 : BitVec 32 := 0#32
  let v72 : BitVec 1 := Scalar.cmpi .sgt v71 c0_i32_34
  let v73 : BitVec 32 := Scalar.extui v72
  let c0_i32_35 : BitVec 32 := 0#32
  let v74 : BitVec 1 := Scalar.cmpi .ne v73 c0_i32_35
  v74

def k0_chk1 (arg13 : BitVec 32) (v71 : BitVec 32) : Prop :=
  (∀ (k0_h1 : k0_cond1 v71 = 1#1), ∀ a, (k0_off1 arg13) a + S1x1x1.size a ≤ S1x1x2560.size a)
theorem k0_off1_inb : ∀ (arg13 : BitVec 32) (v71 : BitVec 32) (k0_hw1 : k0_chk1 arg13 v71), ∀ (k0_h1 : k0_cond1 v71 = 1#1), ∀ a, (k0_off1 arg13) a + S1x1x1.size a ≤ S1x1x2560.size a := fun arg13 v71 k0_hw1 k0_h1 => k0_hw1 k0_h1

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x20x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x20x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x20x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x20x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x5x2560 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .smem S1x1x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .smem S1x1x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .smem S1x1x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .smem S1x1x2560 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x5x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8x5000 : Shape := ⟨2, ![8, 5000]⟩
abbrev S8x5000x4 : Shape := ⟨3, ![8, 5000, 4]⟩
abbrev S8x2500 : Shape := ⟨2, ![8, 2500]⟩
abbrev S_ : Shape := ⟨0, ![]⟩
abbrev S8x2500x1 : Shape := ⟨3, ![8, 2500, 1]⟩
abbrev S1 : Shape := ⟨1, ![1]⟩
abbrev S1x1x1 : Shape := ⟨3, ![1, 1, 1]⟩
abbrev S8x2500x4 : Shape := ⟨3, ![8, 2500, 4]⟩
abbrev S8x2500x4x1 : Shape := ⟨4, ![8, 2500, 4, 1]⟩
abbrev S1x1x1x1 : Shape := ⟨4, ![1, 1, 1, 1]⟩
abbrev S8x1x2500 : Shape := ⟨3, ![8, 1, 2500]⟩
abbrev S8x2500x2500 : Shape := ⟨3, ![8, 2500, 2500]⟩
abbrev S2500 : Shape := ⟨1, ![2500]⟩
abbrev S8x1 : Shape := ⟨2, ![8, 1]⟩
abbrev S1x2500 : Shape := ⟨2, ![1, 2500]⟩
abbrev S8 : Shape := ⟨1, ![8]⟩
abbrev S8x200 : Shape := ⟨2, ![8, 200]⟩
abbrev S200 : Shape := ⟨1, ![200]⟩
abbrev S1x200 : Shape := ⟨2, ![1, 200]⟩
abbrev S8x200x1 : Shape := ⟨3, ![8, 200, 1]⟩
abbrev S8x200x4 : Shape := ⟨3, ![8, 200, 4]⟩
abbrev S8x200x4x1 : Shape := ⟨4, ![8, 200, 4, 1]⟩

abbrev nBuf : Space → Nat
  | .hbm => 252
  | .vmem => 0
  | .smem => 0
  | _ => 0

abbrev hbmTy0_0 (i : Nat) : BufTy := match i % 128 with
  | 0 => ⟨S8x5000, .f32⟩
  | 1 => ⟨S8x5000x4, .f32⟩
  | 2 => ⟨S8x2500, .f32⟩
  | 3 => ⟨S8x2500, .i32⟩
  | 4 => ⟨S_, .i32⟩
  | 5 => ⟨S8x2500, .i32⟩
  | 6 => ⟨S8x2500, .i1⟩
  | 7 => ⟨S_, .i32⟩
  | 8 => ⟨S8x2500, .i32⟩
  | 9 => ⟨S8x2500, .i32⟩
  | 10 => ⟨S8x2500, .i32⟩
  | 11 => ⟨S8x2500x1, .i32⟩
  | 12 => ⟨S1, .i32⟩
  | 13 => ⟨S_, .i32⟩
  | 14 => ⟨S8x2500x1, .i32⟩
  | 15 => ⟨S8x2500x1, .i1⟩
  | 16 => ⟨S1x1x1, .i32⟩
  | 17 => ⟨S8x2500x1, .i32⟩
  | 18 => ⟨S8x2500x1, .i1⟩
  | 19 => ⟨S8x2500x1, .i1⟩
  | 20 => ⟨S_, .i1⟩
  | 21 => ⟨S8x2500, .i1⟩
  | 22 => ⟨S8x2500, .f32⟩
  | 23 => ⟨S_, .f32⟩
  | 24 => ⟨S8x2500, .f32⟩
  | 25 => ⟨S8x2500, .f32⟩
  | 26 => ⟨S8x2500x1, .i32⟩
  | 27 => ⟨S8x2500x4, .i32⟩
  | 28 => ⟨S_, .i32⟩
  | 29 => ⟨S8x2500x4, .i32⟩
  | 30 => ⟨S8x2500x4, .i1⟩
  | 31 => ⟨S_, .i32⟩
  | 32 => ⟨S8x2500x4, .i32⟩
  | 33 => ⟨S8x2500x4, .i32⟩
  | 34 => ⟨S8x2500x4, .i32⟩
  | 35 => ⟨S8x2500x4x1, .i32⟩
  | 36 => ⟨S1, .i32⟩
  | 37 => ⟨S_, .i32⟩
  | 38 => ⟨S8x2500x4x1, .i32⟩
  | 39 => ⟨S8x2500x4x1, .i1⟩
  | 40 => ⟨S1x1x1x1, .i32⟩
  | 41 => ⟨S8x2500x4x1, .i32⟩
  | 42 => ⟨S8x2500x4x1, .i1⟩
  | 43 => ⟨S8x2500x4x1, .i1⟩
  | 44 => ⟨S_, .i1⟩
  | 45 => ⟨S8x2500x4, .i1⟩
  | 46 => ⟨S8x2500x4, .f32⟩
  | 47 => ⟨S_, .f32⟩
  | 48 => ⟨S8x2500x4, .f32⟩
  | 49 => ⟨S8x2500x4, .f32⟩
  | 50 => ⟨S8x2500x1, .f32⟩
  | 51 => ⟨S8x2500, .f32⟩
  | 52 => ⟨S8x2500x1, .f32⟩
  | 53 => ⟨S8x2500, .f32⟩
  | 54 => ⟨S8x2500x1, .f32⟩
  | 55 => ⟨S8x2500, .f32⟩
  | 56 => ⟨S8x2500x1, .f32⟩
  | 57 => ⟨S8x2500, .f32⟩
  | 58 => ⟨S8x2500, .f32⟩
  | 59 => ⟨S8x2500, .f32⟩
  | 60 => ⟨S8x2500, .f32⟩
  | 61 => ⟨S8x2500x1, .f32⟩
  | 62 => ⟨S8x1x2500, .f32⟩
  | 63 => ⟨S8x2500x2500, .f32⟩
  | 64 => ⟨S8x2500x2500, .f32⟩
  | 65 => ⟨S8x2500x2500, .f32⟩
  | 66 => ⟨S8x2500x1, .f32⟩
  | 67 => ⟨S8x1x2500, .f32⟩
  | 68 => ⟨S8x2500x2500, .f32⟩
  | 69 => ⟨S8x2500x2500, .f32⟩
  | 70 => ⟨S8x2500x2500, .f32⟩
  | 71 => ⟨S8x2500x1, .f32⟩
  | 72 => ⟨S8x1x2500, .f32⟩
  | 73 => ⟨S8x2500x2500, .f32⟩
  | 74 => ⟨S8x2500x2500, .f32⟩
  | 75 => ⟨S8x2500x2500, .f32⟩
  | 76 => ⟨S8x2500x1, .f32⟩
  | 77 => ⟨S8x1x2500, .f32⟩
  | 78 => ⟨S8x2500x2500, .f32⟩
  | 79 => ⟨S8x2500x2500, .f32⟩
  | 80 => ⟨S8x2500x2500, .f32⟩
  | 81 => ⟨S8x2500x2500, .f32⟩
  | 82 => ⟨S_, .f32⟩
  | 83 => ⟨S8x2500x2500, .f32⟩
  | 84 => ⟨S8x2500x2500, .f32⟩
  | 85 => ⟨S8x2500x2500, .f32⟩
  | 86 => ⟨S_, .f32⟩
  | 87 => ⟨S8x2500x2500, .f32⟩
  | 88 => ⟨S8x2500x2500, .f32⟩
  | 89 => ⟨S8x2500x2500, .f32⟩
  | 90 => ⟨S8x2500x1, .f32⟩
  | 91 => ⟨S8x1x2500, .f32⟩
  | 92 => ⟨S8x2500x2500, .f32⟩
  | 93 => ⟨S8x2500x2500, .f32⟩
  | 94 => ⟨S8x2500x2500, .f32⟩
  | 95 => ⟨S8x2500x2500, .f32⟩
  | 96 => ⟨S_, .f32⟩
  | 97 => ⟨S8x2500x2500, .f32⟩
  | 98 => ⟨S8x2500x2500, .i1⟩
  | 99 => ⟨S8x2500x2500, .f32⟩
  | 100 => ⟨S_, .f32⟩
  | 101 => ⟨S_, .f32⟩
  | 102 => ⟨S8x2500x2500, .f32⟩
  | 103 => ⟨S8x2500x2500, .f32⟩
  | 104 => ⟨S2500, .i32⟩
  | 105 => ⟨S_, .i1⟩
  | 106 => ⟨S8x2500, .i1⟩
  | 107 => ⟨S_, .i32⟩
  | 108 => ⟨S_, .i32⟩
  | 109 => ⟨S8x2500x2500, .f32⟩
  | 110 => ⟨S2500, .i32⟩
  | 111 => ⟨S_, .i32⟩
  | 112 => ⟨S_, .i32⟩
  | 113 => ⟨S8x2500, .i1⟩
  | 114 => ⟨S_, .i32⟩
  | 115 => ⟨S_, .i1⟩
  | 116 => ⟨S_, .i32⟩
  | 117 => ⟨S_, .i32⟩
  | 118 => ⟨S_, .i32⟩
  | 119 => ⟨S_, .i1⟩
  | 120 => ⟨S_, .i32⟩
  | 121 => ⟨S_, .i32⟩
  | 122 => ⟨S_, .i32⟩
  | 123 => ⟨S_, .i32⟩
  | 124 => ⟨S_, .i32⟩
  | 125 => ⟨S8x1, .i1⟩
  | 126 => ⟨S_, .i32⟩
  | 127 => ⟨S_, .i1⟩
  | _ => ⟨S8x5000, .f32⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S_, .i32⟩
  | 5 => ⟨S_, .i32⟩
  | 6 => ⟨S8x1x2500, .f32⟩
  | 7 => ⟨S8x2500, .f32⟩
  | 8 => ⟨S_, .f32⟩
  | 9 => ⟨S8x2500, .f32⟩
  | 10 => ⟨S8x2500, .i1⟩
  | 11 => ⟨S8x2500, .i1⟩
  | 12 => ⟨S8x2500, .i1⟩
  | 13 => ⟨S_, .i32⟩
  | 14 => ⟨S2500, .i32⟩
  | 15 => ⟨S2500, .i1⟩
  | 16 => ⟨S1x2500, .i1⟩
  | 17 => ⟨S8x2500, .i1⟩
  | 18 => ⟨S8x2500, .i1⟩
  | 19 => ⟨S8x2500, .i1⟩
  | 20 => ⟨S8x2500, .i1⟩
  | 21 => ⟨S_, .i32⟩
  | 22 => ⟨S_, .i32⟩
  | 23 => ⟨S_, .i32⟩
  | 24 => ⟨S_, .i32⟩
  | 25 => ⟨S8x2500, .i32⟩
  | 26 => ⟨S8x2500, .i32⟩
  | 27 => ⟨S8x2500, .i32⟩
  | 28 => ⟨S8x2500, .i32⟩
  | 29 => ⟨S8x2500, .i32⟩
  | 30 => ⟨S_, .i32⟩
  | 31 => ⟨S8, .i32⟩
  | 32 => ⟨S8x1, .i32⟩
  | 33 => ⟨S_, .i32⟩
  | 34 => ⟨S8x1, .i32⟩
  | 35 => ⟨S8x1, .i32⟩
  | 36 => ⟨S8x200, .i32⟩
  | 37 => ⟨S200, .i32⟩
  | 38 => ⟨S1x200, .i32⟩
  | 39 => ⟨S8x200, .i32⟩
  | 40 => ⟨S8x200, .i32⟩
  | 41 => ⟨S8x200, .i1⟩
  | 42 => ⟨S_, .i32⟩
  | 43 => ⟨S_, .i32⟩
  | 44 => ⟨S8x200, .i32⟩
  | 45 => ⟨S8x200, .i32⟩
  | 46 => ⟨S_, .i32⟩
  | 47 => ⟨S8, .i32⟩
  | 48 => ⟨S8x1, .i32⟩
  | 49 => ⟨S_, .i32⟩
  | 50 => ⟨S8x1, .i32⟩
  | 51 => ⟨S8x1, .i32⟩
  | 52 => ⟨S_, .i32⟩
  | 53 => ⟨S8x1, .i32⟩
  | 54 => ⟨S8x1, .i32⟩
  | 55 => ⟨S_, .i32⟩
  | 56 => ⟨S8x1, .i32⟩
  | 57 => ⟨S8x1, .i32⟩
  | 58 => ⟨S8x1, .i32⟩
  | 59 => ⟨S1x200, .i32⟩
  | 60 => ⟨S8x200, .i32⟩
  | 61 => ⟨S8x200, .i32⟩
  | 62 => ⟨S8x200, .i1⟩
  | 63 => ⟨S1x200, .i32⟩
  | 64 => ⟨S8x200, .i32⟩
  | 65 => ⟨S8x200, .i32⟩
  | 66 => ⟨S8x200, .i32⟩
  | 67 => ⟨S8x200, .i32⟩
  | 68 => ⟨S8x200, .i32⟩
  | 69 => ⟨S8x200, .i32⟩
  | 70 => ⟨S_, .i32⟩
  | 71 => ⟨S_, .i32⟩
  | 72 => ⟨S_, .i32⟩
  | 73 => ⟨S8x200, .i32⟩
  | 74 => ⟨S8x200, .i32⟩
  | 75 => ⟨S_, .i32⟩
  | 76 => ⟨S8x200, .i32⟩
  | 77 => ⟨S8x200, .i32⟩
  | 78 => ⟨S_, .i32⟩
  | 79 => ⟨S8x200, .i32⟩
  | 80 => ⟨S8x200, .i1⟩
  | 81 => ⟨S_, .i32⟩
  | 82 => ⟨S8x200, .i32⟩
  | 83 => ⟨S8x200, .i32⟩
  | 84 => ⟨S8x200, .i32⟩
  | 85 => ⟨S8x200x1, .i32⟩
  | 86 => ⟨S1, .i32⟩
  | 87 => ⟨S_, .i32⟩
  | 88 => ⟨S8x200x1, .i32⟩
  | 89 => ⟨S8x200x1, .i1⟩
  | 90 => ⟨S1x1x1, .i32⟩
  | 91 => ⟨S8x200x1, .i32⟩
  | 92 => ⟨S8x200x1, .i1⟩
  | 93 => ⟨S8x200x1, .i1⟩
  | 94 => ⟨S_, .i1⟩
  | 95 => ⟨S8x200, .i1⟩
  | 96 => ⟨S8x200, .f32⟩
  | 97 => ⟨S_, .f32⟩
  | 98 => ⟨S8x200, .f32⟩
  | 99 => ⟨S8x200, .f32⟩
  | 100 => ⟨S8x200x1, .i32⟩
  | 101 => ⟨S8x200x4, .i32⟩
  | 102 => ⟨S_, .i32⟩
  | 103 => ⟨S8x200x4, .i32⟩
  | 104 => ⟨S8x200x4, .i1⟩
  | 105 => ⟨S_, .i32⟩
  | 106 => ⟨S8x200x4, .i32⟩
  | 107 => ⟨S8x200x4, .i32⟩
  | 108 => ⟨S8x200x4, .i32⟩
  | 109 => ⟨S8x200x4x1, .i32⟩
  | 110 => ⟨S1, .i32⟩
  | 111 => ⟨S_, .i32⟩
  | 112 => ⟨S8x200x4x1, .i32⟩
  | 113 => ⟨S8x200x4x1, .i1⟩
  | 114 => ⟨S1x1x1x1, .i32⟩
  | 115 => ⟨S8x200x4x1, .i32⟩
  | 116 => ⟨S8x200x4x1, .i1⟩
  | 117 => ⟨S8x200x4x1, .i1⟩
  | 118 => ⟨S_, .i1⟩
  | 119 => ⟨S8x200x4, .i1⟩
  | 120 => ⟨S8x200x4, .f32⟩
  | 121 => ⟨S_, .f32⟩
  | 122 => ⟨S8x200x4, .f32⟩
  | 123 => ⟨S8x200x4, .f32⟩
  | _ => ⟨S8x5000, .f32⟩

abbrev hbmTy (i : Nat) : BufTy := match i / 128 with
  | 0 => hbmTy0_0 i
  | 1 => hbmTy0_1 i
  | _ => ⟨S8x5000, .f32⟩

abbrev bufTy : (tb : Table) → Fin (tcTables nBuf tb) → BufTy
  | .hbm, ⟨i, _⟩ => hbmTy i
  | _, _ => ⟨S8x5000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_cst : Ref sig .tc := ⟨.hbm, 23, rfl⟩
abbrev main_call0_v14 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_v7 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_v16 : Ref sig .tc := ⟨.hbm, 62, rfl⟩
abbrev main_v17 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_v21 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v25 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_cst : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_cst_0 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_cst_1 : Ref sig .tc := ⟨.hbm, 96, rfl⟩
abbrev main_v48 : Ref sig .tc := ⟨.hbm, 97, rfl⟩
abbrev main_v49 : Ref sig .tc := ⟨.hbm, 98, rfl⟩
abbrev main_v50 : Ref sig .tc := ⟨.hbm, 99, rfl⟩
abbrev main_cst_2 : Ref sig .tc := ⟨.hbm, 100, rfl⟩
abbrev main_call2_v0 : Ref sig .tc := ⟨.hbm, 101, rfl⟩
abbrev main_call2_v1 : Ref sig .tc := ⟨.hbm, 102, rfl⟩
abbrev main_v51 : Ref sig .tc := ⟨.hbm, 103, rfl⟩
abbrev main_v52 : Ref sig .tc := ⟨.hbm, 104, rfl⟩
abbrev main_c : Ref sig .tc := ⟨.hbm, 105, rfl⟩
abbrev main_v53 : Ref sig .tc := ⟨.hbm, 106, rfl⟩
abbrev main_c_3 : Ref sig .tc := ⟨.hbm, 107, rfl⟩
abbrev main_c_4 : Ref sig .tc := ⟨.hbm, 108, rfl⟩
abbrev main_v54_0 : Ref sig .tc := ⟨.hbm, 109, rfl⟩
abbrev main_v54_1 : Ref sig .tc := ⟨.hbm, 110, rfl⟩
abbrev main_v54_2 : Ref sig .tc := ⟨.hbm, 111, rfl⟩
abbrev main_v54_3 : Ref sig .tc := ⟨.hbm, 112, rfl⟩
abbrev main_v54_4 : Ref sig .tc := ⟨.hbm, 113, rfl⟩
abbrev main_while0c_c_19 : Ref sig .tc := ⟨.hbm, 114, rfl⟩
abbrev main_while0c_v94 : Ref sig .tc := ⟨.hbm, 115, rfl⟩
abbrev main_while0b_c_19 : Ref sig .tc := ⟨.hbm, 116, rfl⟩
abbrev main_while0b_v94 : Ref sig .tc := ⟨.hbm, 117, rfl⟩
abbrev main_while0b_call3_c : Ref sig .tc := ⟨.hbm, 118, rfl⟩
abbrev main_while0b_call3_v0 : Ref sig .tc := ⟨.hbm, 119, rfl⟩
abbrev main_while0b_call3_v1 : Ref sig .tc := ⟨.hbm, 120, rfl⟩
abbrev main_while0b_call3_c_0 : Ref sig .tc := ⟨.hbm, 121, rfl⟩
abbrev main_while0b_call3_v2 : Ref sig .tc := ⟨.hbm, 122, rfl⟩
abbrev main_while0b_call3_v3 : Ref sig .tc := ⟨.hbm, 123, rfl⟩
abbrev main_while0b_call3_c_1 : Ref sig .tc := ⟨.hbm, 124, rfl⟩
abbrev main_while0b_v95 : Ref sig .tc := ⟨.hbm, 125, rfl⟩
abbrev main_while0b_call4_c : Ref sig .tc := ⟨.hbm, 126, rfl⟩
abbrev main_while0b_call4_v0 : Ref sig .tc := ⟨.hbm, 127, rfl⟩
abbrev main_while0b_call4_v1 : Ref sig .tc := ⟨.hbm, 128, rfl⟩
abbrev main_while0b_call4_c_0 : Ref sig .tc := ⟨.hbm, 129, rfl⟩
abbrev main_while0b_call4_v2 : Ref sig .tc := ⟨.hbm, 130, rfl⟩
abbrev main_while0b_call4_v3 : Ref sig .tc := ⟨.hbm, 131, rfl⟩
abbrev main_while0b_call4_c_1 : Ref sig .tc := ⟨.hbm, 132, rfl⟩
abbrev main_while0b_call4_c_2 : Ref sig .tc := ⟨.hbm, 133, rfl⟩
abbrev main_while0b_call4_v4 : Ref sig .tc := ⟨.hbm, 134, rfl⟩
abbrev main_while0b_v96 : Ref sig .tc := ⟨.hbm, 135, rfl⟩
abbrev main_while0b_cst_20 : Ref sig .tc := ⟨.hbm, 136, rfl⟩
abbrev main_while0b_v97 : Ref sig .tc := ⟨.hbm, 137, rfl⟩
abbrev main_while0b_v98 : Ref sig .tc := ⟨.hbm, 138, rfl⟩
abbrev main_while0b_v99 : Ref sig .tc := ⟨.hbm, 139, rfl⟩
abbrev main_while0b_v100 : Ref sig .tc := ⟨.hbm, 140, rfl⟩
abbrev main_while0b_v101 : Ref sig .tc := ⟨.hbm, 141, rfl⟩
abbrev main_while0b_v102 : Ref sig .tc := ⟨.hbm, 142, rfl⟩
abbrev main_while0b_v103 : Ref sig .tc := ⟨.hbm, 143, rfl⟩
abbrev main_while0b_v104 : Ref sig .tc := ⟨.hbm, 144, rfl⟩
abbrev main_while0b_v105 : Ref sig .tc := ⟨.hbm, 145, rfl⟩
abbrev main_while0b_v106 : Ref sig .tc := ⟨.hbm, 146, rfl⟩
abbrev main_while0b_v107 : Ref sig .tc := ⟨.hbm, 147, rfl⟩
abbrev main_while0b_v108 : Ref sig .tc := ⟨.hbm, 148, rfl⟩
abbrev main_while0b_c_21 : Ref sig .tc := ⟨.hbm, 149, rfl⟩
abbrev main_while0b_v109 : Ref sig .tc := ⟨.hbm, 150, rfl⟩
abbrev main_c_5 : Ref sig .tc := ⟨.hbm, 151, rfl⟩
abbrev main_call5_v0 : Ref sig .tc := ⟨.hbm, 152, rfl⟩
abbrev main_call5_v1 : Ref sig .tc := ⟨.hbm, 153, rfl⟩
abbrev main_call5_v2 : Ref sig .tc := ⟨.hbm, 154, rfl⟩
abbrev main_v55 : Ref sig .tc := ⟨.hbm, 155, rfl⟩
abbrev main_v56 : Ref sig .tc := ⟨.hbm, 156, rfl⟩
abbrev main_v57 : Ref sig .tc := ⟨.hbm, 157, rfl⟩
abbrev main_c_6 : Ref sig .tc := ⟨.hbm, 158, rfl⟩
abbrev main_v58 : Ref sig .tc := ⟨.hbm, 159, rfl⟩
abbrev main_v59 : Ref sig .tc := ⟨.hbm, 160, rfl⟩
abbrev main_c_7 : Ref sig .tc := ⟨.hbm, 161, rfl⟩
abbrev main_v60 : Ref sig .tc := ⟨.hbm, 162, rfl⟩
abbrev main_v61 : Ref sig .tc := ⟨.hbm, 163, rfl⟩
abbrev main_v62 : Ref sig .tc := ⟨.hbm, 164, rfl⟩
abbrev main_v63 : Ref sig .tc := ⟨.hbm, 165, rfl⟩
abbrev main_v64 : Ref sig .tc := ⟨.hbm, 166, rfl⟩
abbrev main_v65 : Ref sig .tc := ⟨.hbm, 167, rfl⟩
abbrev main_v66 : Ref sig .tc := ⟨.hbm, 168, rfl⟩
abbrev main_v67 : Ref sig .tc := ⟨.hbm, 169, rfl⟩
abbrev main_c_8 : Ref sig .tc := ⟨.hbm, 170, rfl⟩
abbrev main_call7_v0 : Ref sig .tc := ⟨.hbm, 171, rfl⟩
abbrev main_call7_v1 : Ref sig .tc := ⟨.hbm, 172, rfl⟩
abbrev main_v68 : Ref sig .tc := ⟨.hbm, 173, rfl⟩
abbrev main_c_9 : Ref sig .tc := ⟨.hbm, 174, rfl⟩
abbrev main_v69 : Ref sig .tc := ⟨.hbm, 175, rfl⟩
abbrev main_v70 : Ref sig .tc := ⟨.hbm, 176, rfl⟩
abbrev main_c_10 : Ref sig .tc := ⟨.hbm, 177, rfl⟩
abbrev main_v71 : Ref sig .tc := ⟨.hbm, 178, rfl⟩
abbrev main_v72 : Ref sig .tc := ⟨.hbm, 179, rfl⟩
abbrev main_c_11 : Ref sig .tc := ⟨.hbm, 180, rfl⟩
abbrev main_v73 : Ref sig .tc := ⟨.hbm, 181, rfl⟩
abbrev main_v74 : Ref sig .tc := ⟨.hbm, 182, rfl⟩
abbrev main_c_12 : Ref sig .tc := ⟨.hbm, 183, rfl⟩
abbrev main_v75 : Ref sig .tc := ⟨.hbm, 184, rfl⟩
abbrev main_v76 : Ref sig .tc := ⟨.hbm, 185, rfl⟩
abbrev main_v77 : Ref sig .tc := ⟨.hbm, 186, rfl⟩
abbrev main_v78 : Ref sig .tc := ⟨.hbm, 187, rfl⟩
abbrev main_v79 : Ref sig .tc := ⟨.hbm, 188, rfl⟩
abbrev main_v80 : Ref sig .tc := ⟨.hbm, 189, rfl⟩
abbrev main_v81 : Ref sig .tc := ⟨.hbm, 190, rfl⟩
abbrev main_v82 : Ref sig .tc := ⟨.hbm, 191, rfl⟩
abbrev main_v83 : Ref sig .tc := ⟨.hbm, 192, rfl⟩
abbrev main_v84 : Ref sig .tc := ⟨.hbm, 193, rfl⟩
abbrev main_v85 : Ref sig .tc := ⟨.hbm, 194, rfl⟩
abbrev main_v86 : Ref sig .tc := ⟨.hbm, 195, rfl⟩
abbrev main_v87 : Ref sig .tc := ⟨.hbm, 196, rfl⟩
abbrev main_v88 : Ref sig .tc := ⟨.hbm, 197, rfl⟩
abbrev main_c_13 : Ref sig .tc := ⟨.hbm, 198, rfl⟩
abbrev main_c_14 : Ref sig .tc := ⟨.hbm, 199, rfl⟩
abbrev main_call9_v0 : Ref sig .tc := ⟨.hbm, 200, rfl⟩
abbrev main_call9_v1 : Ref sig .tc := ⟨.hbm, 201, rfl⟩
abbrev main_call9_v2 : Ref sig .tc := ⟨.hbm, 202, rfl⟩
abbrev main_call9_v3 : Ref sig .tc := ⟨.hbm, 203, rfl⟩
abbrev main_call9_v4 : Ref sig .tc := ⟨.hbm, 204, rfl⟩
abbrev main_v89 : Ref sig .tc := ⟨.hbm, 205, rfl⟩
abbrev main_call10_c : Ref sig .tc := ⟨.hbm, 206, rfl⟩
abbrev main_call10_v0 : Ref sig .tc := ⟨.hbm, 207, rfl⟩
abbrev main_call10_v1 : Ref sig .tc := ⟨.hbm, 208, rfl⟩
abbrev main_call10_c_0 : Ref sig .tc := ⟨.hbm, 209, rfl⟩
abbrev main_call10_v2 : Ref sig .tc := ⟨.hbm, 210, rfl⟩
abbrev main_call10_v3 : Ref sig .tc := ⟨.hbm, 211, rfl⟩
abbrev main_call10_v4 : Ref sig .tc := ⟨.hbm, 212, rfl⟩
abbrev main_call10_v5 : Ref sig .tc := ⟨.hbm, 213, rfl⟩
abbrev main_call10_c_1 : Ref sig .tc := ⟨.hbm, 214, rfl⟩
abbrev main_call10_c_2 : Ref sig .tc := ⟨.hbm, 215, rfl⟩
abbrev main_call10_v6 : Ref sig .tc := ⟨.hbm, 216, rfl⟩
abbrev main_call10_v7 : Ref sig .tc := ⟨.hbm, 217, rfl⟩
abbrev main_call10_v8 : Ref sig .tc := ⟨.hbm, 218, rfl⟩
abbrev main_call10_v9 : Ref sig .tc := ⟨.hbm, 219, rfl⟩
abbrev main_call10_v10 : Ref sig .tc := ⟨.hbm, 220, rfl⟩
abbrev main_call10_v11 : Ref sig .tc := ⟨.hbm, 221, rfl⟩
abbrev main_call10_c_3 : Ref sig .tc := ⟨.hbm, 222, rfl⟩
abbrev main_call10_v12 : Ref sig .tc := ⟨.hbm, 223, rfl⟩
abbrev main_call10_v13 : Ref sig .tc := ⟨.hbm, 224, rfl⟩
abbrev main_call10_cst : Ref sig .tc := ⟨.hbm, 225, rfl⟩
abbrev main_call10_v14 : Ref sig .tc := ⟨.hbm, 226, rfl⟩
abbrev main_v90 : Ref sig .tc := ⟨.hbm, 227, rfl⟩
abbrev main_v91 : Ref sig .tc := ⟨.hbm, 228, rfl⟩
abbrev main_v92 : Ref sig .tc := ⟨.hbm, 229, rfl⟩
abbrev main_call11_c : Ref sig .tc := ⟨.hbm, 230, rfl⟩
abbrev main_call11_v0 : Ref sig .tc := ⟨.hbm, 231, rfl⟩
abbrev main_call11_v1 : Ref sig .tc := ⟨.hbm, 232, rfl⟩
abbrev main_call11_c_0 : Ref sig .tc := ⟨.hbm, 233, rfl⟩
abbrev main_call11_v2 : Ref sig .tc := ⟨.hbm, 234, rfl⟩
abbrev main_call11_v3 : Ref sig .tc := ⟨.hbm, 235, rfl⟩
abbrev main_call11_v4 : Ref sig .tc := ⟨.hbm, 236, rfl⟩
abbrev main_call11_v5 : Ref sig .tc := ⟨.hbm, 237, rfl⟩
abbrev main_call11_c_1 : Ref sig .tc := ⟨.hbm, 238, rfl⟩
abbrev main_call11_c_2 : Ref sig .tc := ⟨.hbm, 239, rfl⟩
abbrev main_call11_v6 : Ref sig .tc := ⟨.hbm, 240, rfl⟩
abbrev main_call11_v7 : Ref sig .tc := ⟨.hbm, 241, rfl⟩
abbrev main_call11_v8 : Ref sig .tc := ⟨.hbm, 242, rfl⟩
abbrev main_call11_v9 : Ref sig .tc := ⟨.hbm, 243, rfl⟩
abbrev main_call11_v10 : Ref sig .tc := ⟨.hbm, 244, rfl⟩
abbrev main_call11_v11 : Ref sig .tc := ⟨.hbm, 245, rfl⟩
abbrev main_call11_c_3 : Ref sig .tc := ⟨.hbm, 246, rfl⟩
abbrev main_call11_v12 : Ref sig .tc := ⟨.hbm, 247, rfl⟩
abbrev main_call11_v13 : Ref sig .tc := ⟨.hbm, 248, rfl⟩
abbrev main_call11_cst : Ref sig .tc := ⟨.hbm, 249, rfl⟩
abbrev main_call11_v14 : Ref sig .tc := ⟨.hbm, 250, rfl⟩
abbrev main_v93 : Ref sig .tc := ⟨.hbm, 251, rfl⟩

abbrev nD : Nat := 1
abbrev τ : Topo := Topo.v7x

variable {F : FTy → Type} [FloatOps F]

abbrev main_while0_count : Scf.Loop 32 := ⟨0#32, 2500#32, 1#32⟩
-- ==== Proof.BodyKernelIdeal.lean ====
/-
  The kernel's body on whole blocks, for any float values: what one trip of the suppression loop does to its state
  (`trip`), the state the loop stops at (`go`), and the block the body leaves (`outBlk`); the loop's label met by
  induction on the trips still allowed (`spec_le`), then the whole body (`sound_kernel`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.Value
public import Idealize.ShloMosaic.Lib.Pipeline.FrameSuffix
public import Idealize.ShloMosaic.Lib.Ring
public import Idealize.ShloMosaic.Lib.Tactic

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The loop's variants: naturals, the trips still allowed. -/
abbrev 𝒱₀ : Variants := Variants.nat

/-! ## The loop on values -/

/-- The blocks one grid point reads: the four coordinates as vectors, the table of five rows, the four coordinates as
    scalars. -/
structure Blk (F : FTy → Type) where
  y1 : Vec F S1x20x128 .f32
  x1 : Vec F S1x20x128 .f32
  y2 : Vec F S1x20x128 .f32
  x2 : Vec F S1x20x128 .f32
  tab : Vec F S1x5x2560 .f32
  sy1 : Vec F S1x1x2560 .f32
  sx1 : Vec F S1x1x2560 .f32
  sy2 : Vec F S1x1x2560 .f32
  sx2 : Vec F S1x1x2560 .f32

/-- The loop's state: which boxes are still kept, the boxes chosen so far, and how many they are. -/
structure KState (F : FTy → Type) where
  keep : Vec F S20x128 .i32
  sel : Vec F S1x256 .i32
  cnt : BitVec 32

/-- The scalar of a coordinate block at box `i`. -/
def word (X : Vec F S1x1x2560 .f32) (i : BitVec 32) : Elt F .f32 :=
  if h : ∀ a, (k0_off1 i) a + S1x1x1.size a ≤ S1x1x2560.size a then
    View.ld X (Rect.unit (s := S1x1x2560) (k0_off1 i) S1x1x1.size h) (Shape.Idx.first (numel1_S1x1x1.symm ▸ Nat.one_pos))
  else X (Shape.Idx.first (by decide))

/-- Whether box `i` is still kept (a word, 1 or 0). -/
def kiOf (i : BitVec 32) (keep : Vec F S20x128 .i32) : BitVec 32 :=
  extractAt ![0, 0, 0] (k0_pay2 (F := F) k0_pay9 i keep) inpos_S1x1x1_p0_0_0

/-- The lanes of the selection row, numbered. -/
abbrev lane256 : IVec S1x256 32 := iota .tc S1x256 32 [1] iota_S1x256_d1_w32

/-- One trip at box `i`: a box still kept suppresses the later boxes it overlaps and is appended to the selection. -/
def trip (B : Blk F) (i : BitVec 32) (s : KState F) : KState F where
  keep := if k0_cond1 (kiOf i s.keep) = 1#1 then
      k0_pay13 k0_pay9 (k0_pay6 B.y2) (k0_pay4 B.y1) (k0_pay7 B.x2) (k0_pay5 B.x1) (k0_pay8 B.y1 B.x1 B.y2 B.x2) i s.keep
        (word B.sy1 i) (word B.sx1 i) (word B.sy2 i) (word B.sx2 i)
    else s.keep
  sel := if k0_cond1 (kiOf i s.keep) = 1#1 then k0_pay3 (F := F) lane256 i s.cnt s.sel else s.sel
  cnt := Scalar.addi s.cnt (kiOf i s.keep)

/-- The loop's test. -/
def test (i cnt : BitVec 32) : BitVec 1 := Scalar.andi (Scalar.cmpi .slt i 2500#32) (Scalar.cmpi .slt cnt 200#32)

/-- The state the loop stops at, from box `j` with `k` trips allowed. -/
def go (B : Blk F) : ℕ → ℕ → KState F → KState F
  | 0, _, s => s
  | k + 1, j, s => if test (BitVec.ofNat 32 j) s.cnt = 1#1 then go B k (j + 1) (trip B (BitVec.ofNat 32 j) s) else s

/-- The state the loop starts from: every box kept, nothing chosen. -/
def start : KState F := ⟨k0_pay10, k0_pay11, 0#32⟩

/-- The state the loop stops at. -/
def stop (B : Blk F) : KState F := go B 2500 0 start

/-- The block the body leaves. -/
def outBlk (B : Blk F) : Vec F S1x5x256 .f32 :=
  k0_pay1 lane256 (stop B).cnt (stop B).sel (k0_pay12 (stop B).cnt) 0#32 B.tab

/-! ## Accesses of owned memrefs -/

section Access

variable (c : Dev nD) (bd : Option 𝒱₀.V) (E : Set ℕ)

/-- A load through a rectangle of an owned memref reads the owned contents there. -/
theorem wp_load_owns {α : Type} {Q : α → sProp 𝕄} {cs : CoreSpace} {s : Shape} {e : EltTy} {m : Memref sig .tc cs s e} {r : Rect s} {hl : m.view.LoadsAt r.toLoadRect}
    {k : (r.shape.Idx → Elt F e) → Prog (TpuEff nD τ sig (Elt F) (Λ₀ F) .tc) α} {X : s.Idx → Elt F e} :
    owns (c : Thread nD τ) m fullShare X
      ⊢ iprop((owns (c : Thread nD τ) m fullShare X -∗ wp frame (wpE (defs₀ (F := F)) 𝒱₀ (c : Thread nD τ) bd) E (k (View.ld X r)) Q)
        -∗ wp frame (wpE (defs₀ (F := F)) 𝒱₀ (c : Thread nD τ) bd) E (.op (.load m r.toLoadRect hl) k) Q) := by
  unfold owns
  iintro ⟨%f, %hf, H⟩ Hk
  subst hf
  iapply (wp_load 𝒱₀ (c : Thread nD τ) bd E (m := m) (r := r.toLoadRect) (S := m.view.set) (f := f) (View.setOn_subset_set _ _)) $$ H
  iintro H
  iapply Hk
  iexists f; isplitr; · ipureintro; rfl
  iexact H

/-- A store over a whole owned memref leaves the stored contents. -/
theorem wp_store_owns {α : Type} {Q : α → sProp 𝕄} {cs : CoreSpace} {s : Shape} {e : EltTy} {m : Memref sig .tc cs s e} {off : Fin s.rank → ℕ}
    {inb : ∀ a, off a + s.size a ≤ s.size a} {w : (Rect.unit (s := s) off s.size inb).shape.Idx → Elt F e}
    {hx : (m.access (Rect.unit (s := s) off s.size inb)).Stores Finset.univ} {hm}
    {k : PUnit → Prog (TpuEff nD τ sig (Elt F) (Λ₀ F) .tc) α} {X : s.Idx → Elt F e} (h0 : off = fun _ => 0) :
    owns (c : Thread nD τ) m fullShare X
      ⊢ iprop((owns (c : Thread nD τ) m fullShare w -∗ wp frame (wpE (defs₀ (F := F)) 𝒱₀ (c : Thread nD τ) bd) E (k ⟨⟩) Q)
        -∗ wp frame (wpE (defs₀ (F := F)) 𝒱₀ (c : Thread nD τ) bd) E (.op (.store m (Rect.unit (s := s) off s.size inb) w Finset.univ hx hm) k) Q) := by
  subst h0
  unfold owns
  iintro ⟨%f, %hf, H⟩ Hk
  iapply (wp_store 𝒱₀ (c : Thread nD τ) bd E (m := m) (r := Rect.unit (s := s) (fun _ => 0) s.size inb) (Mk := Finset.univ)
    (View.set_slice_subset m.view (Rect.unit (s := s) (fun _ => 0) s.size inb))) $$ H
  iintro H
  iapply Hk
  iexists _; isplitr; swap; · iexact H
  ipureintro
  funext x
  have h := View.read_slice_write_emb (Val := Elt F) (v := m.view) (Rect.whole s) f w (Finset.mem_univ x)
  rw [Rect.emb_whole_apply] at h
  exact h

/-- A load of a whole owned memref reads the owned contents. -/
theorem wp_load_full {α : Type} {Q : α → sProp 𝕄} {cs : CoreSpace} {s : Shape} {e : EltTy} {m : Memref sig .tc cs s e} {off : Fin s.rank → ℕ}
    {inb : ∀ a, off a + s.size a ≤ s.size a} {hl : m.view.LoadsAt (Rect.unit (s := s) off s.size inb).toLoadRect}
    {k : (s.Idx → Elt F e) → Prog (TpuEff nD τ sig (Elt F) (Λ₀ F) .tc) α} {X : s.Idx → Elt F e} (h0 : off = fun _ => 0) :
    owns (c : Thread nD τ) m fullShare X
      ⊢ iprop((owns (c : Thread nD τ) m fullShare X -∗ wp frame (wpE (defs₀ (F := F)) 𝒱₀ (c : Thread nD τ) bd) E (k X) Q)
        -∗ wp frame (wpE (defs₀ (F := F)) 𝒱₀ (c : Thread nD τ) bd) E (.op (.load m (Rect.unit (s := s) off s.size inb).toLoadRect hl) k) Q) := by
  have h := wp_load_owns (Q := Q) c bd E (m := m) (r := Rect.unit (s := s) off s.size inb) (hl := hl) (k := k) (X := X)
  have hX : View.ld X (Rect.unit (s := s) off s.size inb) = X := View.ld_unit_zero h0 inb X
  rw [hX] at h
  exact h

end Access

theorem zeros2 : (![0, 0] : Fin 2 → ℕ) = fun _ => 0 := by decide
theorem zeros3 : (![0, 0, 0] : Fin 3 → ℕ) = fun _ => 0 := by decide

/-! ## The loop's label -/

/-- The loop's test fails once every box was visited. -/
theorem test_end (cnt : BitVec 32) : ¬ test (BitVec.ofNat 32 2500) cnt = 1#1 := by
  unfold test
  rw [show Scalar.cmpi .slt (BitVec.ofNat 32 2500) 2500#32 = 0#1 from by decide]
  simp [Scalar.andi, IntOp.andi]

theorem off_box (j : ℕ) (hj : j < 2500) (a : Fin 3) : k0_off1 (BitVec.ofNat 32 j) a + S1x1x1.size a ≤ S1x1x2560.size a := by
  have h : (Scalar.indexCast (BitVec.ofNat 32 j)).toNat = j := by
    show (BitVec.ofNat 32 j).toNat = j
    rw [BitVec.toNat_ofNat]
    omega
  fin_cases a
  · simp [k0_off1, S1x1x1, S1x1x2560]
  · simp [k0_off1, S1x1x1, S1x1x2560]
  · show (Scalar.indexCast (BitVec.ofNat 32 j)).toNat + 1 ≤ 2560
    omega

section Label

variable (c : Dev nD) (i : grid0.Coords)
  (arg6 : Memref sig .tc .smem S1x1x2560 .f32) (harg6 : arg6.IsWhole) (arg7 : Memref sig .tc .smem S1x1x2560 .f32) (harg7 : arg7.IsWhole)
  (arg8 : Memref sig .tc .smem S1x1x2560 .f32) (harg8 : arg8.IsWhole) (arg9 : Memref sig .tc .smem S1x1x2560 .f32) (harg9 : arg9.IsWhole)
  (arg11 : Memref sig .tc .vmem S20x128 .i32) (harg11 : arg11.IsWhole) (arg12 : Memref sig .tc .vmem S1x256 .i32) (harg12 : arg12.IsWhole)
  (B : Blk F)

/-- What the loop holds: the scalar coordinates and its state's two vectors. -/
def held (s : KState F) : sProp 𝕄 :=
  iprop(owns (c : Thread nD τ) arg6 fullShare B.sy1 ∗ owns (c : Thread nD τ) arg7 fullShare B.sx1
    ∗ owns (c : Thread nD τ) arg8 fullShare B.sy2 ∗ owns (c : Thread nD τ) arg9 fullShare B.sx2
    ∗ owns (c : Thread nD τ) arg11 fullShare s.keep ∗ owns (c : Thread nD τ) arg12 fullShare s.sel)

/-- The label with `k` trips allowed after box `j`: from a state it returns the count of the state the loop stops at, that
    state held. -/
def spec (j k : ℕ) (s : KState F) : sWPT 𝕄 (BitVec 32 × BitVec 32) := do
  sWPT.consume (held c arg6 arg7 arg8 arg9 arg11 arg12 B s)
  let r ← sWPT.arbitrary
  sWPT.assume (r.2 = (go B k j s).cnt)
  sWPT.produce (held c arg6 arg7 arg8 arg9 arg11 arg12 B (go B k j s))
  pure r

theorem spec_apply (j k : ℕ) (s : KState F) (K : BitVec 32 × BitVec 32 → sProp 𝕄) :
    spec c arg6 arg7 arg8 arg9 arg11 arg12 B j k s K
      = iprop(held c arg6 arg7 arg8 arg9 arg11 arg12 B s ∗ ∀ r, ⌜r.2 = (go B k j s).cnt⌝ -∗
          held c arg6 arg7 arg8 arg9 arg11 arg12 B (go B k j s) -∗ K r) := rfl

attribute [local irreducible] k0_pay1 k0_pay2 k0_pay3 k0_pay4 k0_pay5 k0_pay6 k0_pay7 k0_pay8 k0_pay9 k0_pay10 k0_pay11 k0_pay12 k0_pay13 k0_cond1 extractAt iota

set_option maxHeartbeats 4000000 in
/-- The label's body meets its specification, by induction on the trips allowed. -/
theorem spec_le (E : Set ℕ) :
    ∀ k j, j + k = 2500 → ∀ (s : KState F) K, spec c arg6 arg7 arg8 arg9 arg11 arg12 B j k s K
      ⊢ wp frame (wpE (defs₀ (F := F)) 𝒱₀ (c : Thread nD τ) (some k)) E
          (defs₀ (F := F) .tc 1 ⟨i, arg11, harg11, k0_pay9, arg6, harg6, arg7, harg7, arg8, harg8, arg9, harg9,
            k0_pay6 B.y2, k0_pay4 B.y1, k0_pay7 B.x2, k0_pay5 B.x1, k0_pay8 B.y1 B.x1 B.y2 B.x2, lane256, arg12, harg12,
            BitVec.ofNat 32 j, s.cnt⟩) K := by
  intro k
  induction k with
  | zero =>
    intro j hj s K
    obtain rfl : j = 2500 := by omega
    rw [spec_apply]
    show _ ⊢ wp frame (wpE (defs₀ (F := F)) 𝒱₀ (c : Thread nD τ) (some 0)) E
      (cc0_while1 i arg11 harg11 k0_pay9 arg6 harg6 arg7 harg7 arg8 harg8 arg9 harg9
            (k0_pay6 B.y2) (k0_pay4 B.y1) (k0_pay7 B.x2) (k0_pay5 B.x1) (k0_pay8 B.y1 B.x1 B.y2 B.x2) lane256 arg12 harg12
            (BitVec.ofNat 32 2500) s.cnt) K
    simp only [cc0_while1_eq_skeleton]; unfold cc0_while1_skel
    have ht : ¬ Scalar.andi (Scalar.cmpi .slt (BitVec.ofNat 32 2500) 2500#32) (Scalar.cmpi .slt s.cnt 200#32) = 1#1 := test_end s.cnt
    simp only [ht, ↓reduceIte, Prog.pure_eq_ret]
    iintro ⟨H, Hk⟩
    rw [wp_ret]; imodintro
    iapply Hk
    · ipureintro; rfl
    · iexact H
  | succ k ih =>
    intro j hj s K
    have hj' : j < 2500 := by omega
    rw [spec_apply]
    show _ ⊢ wp frame (wpE (defs₀ (F := F)) 𝒱₀ (c : Thread nD τ) (some (k + 1))) E
      (cc0_while1 i arg11 harg11 k0_pay9 arg6 harg6 arg7 harg7 arg8 harg8 arg9 harg9
            (k0_pay6 B.y2) (k0_pay4 B.y1) (k0_pay7 B.x2) (k0_pay5 B.x1) (k0_pay8 B.y1 B.x1 B.y2 B.x2) lane256 arg12 harg12
            (BitVec.ofNat 32 j) s.cnt) K
    simp only [cc0_while1_eq_skeleton]; unfold cc0_while1_skel
    by_cases ht : test (BitVec.ofNat 32 j) s.cnt = 1#1
    · have ht' := ht
      unfold test at ht'
      have hgo : go B (k + 1) j s = go B k (j + 1) (trip B (BitVec.ofNat 32 j) s) := by
        show (if _ then _ else _) = _
        rw [if_pos ht]
      rw [hgo]
      have hadd : Scalar.addi (BitVec.ofNat 32 j) 1#32 = BitVec.ofNat 32 (j + 1) := by
        simp [Scalar.addi, IntOp.addi, BitVec.ofNat_add]
      have hrec := ih (j + 1) (by omega) (trip B (BitVec.ofNat 32 j) s)
      have hoff := off_box j hj'
      generalize hI : BitVec.ofNat 32 j = I at *
      simp only [ht', ↓reduceIte, Prog.lift, Prog.bind_op, Prog.bind_ret, Prog.pure_eq_ret]
      unfold held
      iintro ⟨⟨H6, H7, H8, H9, Hkeep, Hsel⟩, Hk⟩
      iapply (wp_load_full c (some (k + 1)) E (m := arg11) (off := ![0, 0]) zeros2) $$ Hkeep; iintro Hkeep
      iapply (wp_assume 𝒱₀ (c : Thread nD τ) (some (k + 1)) E (fun _ => hoff))
      have hki : extractAt ![0, 0, 0] (k0_pay2 (F := F) k0_pay9 I s.keep) inpos_S1x1x1_p0_0_0 = kiOf I s.keep := rfl
      by_cases hc : k0_cond1 (extractAt ![0, 0, 0] (k0_pay2 (F := F) k0_pay9 I s.keep) inpos_S1x1x1_p0_0_0) = 1#1
      · rw [dif_pos hc]
        simp only [k0_part2_eq_skeleton]; unfold k0_part2_skel
        simp only [smemLoad, smemLoadElt, Prog.lift, Prog.bind_op, Prog.bind_ret, Prog.pure_eq_ret]
        iapply (wp_load_owns c (some (k + 1)) E) $$ H6; iintro H6
        iapply (wp_load_owns c (some (k + 1)) E) $$ H7; iintro H7
        iapply (wp_load_owns c (some (k + 1)) E) $$ H8; iintro H8
        iapply (wp_load_owns c (some (k + 1)) E) $$ H9; iintro H9
        iapply (wp_load_full c (some (k + 1)) E (m := arg11) (off := ![0, 0]) zeros2) $$ Hkeep; iintro Hkeep
        iapply (wp_store_owns c (some (k + 1)) E (m := arg11) (off := ![0, 0]) zeros2) $$ Hkeep; iintro Hkeep
        iapply (wp_load_full c (some (k + 1)) E (m := arg12) (off := ![0, 0]) zeros2) $$ Hsel; iintro Hsel
        iapply (wp_load_full c (some (k + 1)) E (m := arg12) (off := ![0, 0]) zeros2) $$ Hsel; iintro Hsel
        iapply (wp_store_owns c (some (k + 1)) E (m := arg12) (off := ![0, 0]) zeros2) $$ Hsel; iintro Hsel
        rw [hadd]
        iapply (wp_call_spec 𝒱₀ (c : Thread nD τ) (some (k + 1)) E (spec c arg6 arg7 arg8 arg9 arg11 arg12 B (j + 1) k (trip B I s)) k
          (fun u hu => by cases hu; exact Nat.lt_succ_self k) (hrec))
        rw [spec_apply]; unfold held
        isplitl [H6 H7 H8 H9 Hkeep Hsel]
        · isplitl [H6]; · iexact H6
          isplitl [H7]; · iexact H7
          isplitl [H8]; · iexact H8
          isplitl [H9]; · iexact H9
          unfold trip
          rw [hki] at hc
          rw [if_pos hc, if_pos hc, show word B.sy1 I = _ from dif_pos hoff, show word B.sx1 I = _ from dif_pos hoff,
            show word B.sy2 I = _ from dif_pos hoff, show word B.sx2 I = _ from dif_pos hoff]
          isplitl [Hkeep]; · iexact Hkeep
          iexact Hsel
        iintro %r %hr H
        rw [wp_ret]; imodintro
        iapply Hk
        · ipureintro; exact hr
        · iexact H
      · rw [dif_neg hc]
        simp only [Prog.lift, Prog.bind_op, Prog.bind_ret, Prog.pure_eq_ret]
        rw [hadd]
        iapply (wp_call_spec 𝒱₀ (c : Thread nD τ) (some (k + 1)) E (spec c arg6 arg7 arg8 arg9 arg11 arg12 B (j + 1) k (trip B I s)) k
          (fun u hu => by cases hu; exact Nat.lt_succ_self k) (hrec))
        rw [spec_apply]; unfold held
        isplitl [H6 H7 H8 H9 Hkeep Hsel]
        · isplitl [H6]; · iexact H6
          isplitl [H7]; · iexact H7
          isplitl [H8]; · iexact H8
          isplitl [H9]; · iexact H9
          unfold trip
          rw [hki] at hc
          rw [if_neg hc, if_neg hc]
          isplitl [Hkeep]; · iexact Hkeep
          iexact Hsel
        iintro %r %hr H
        rw [wp_ret]; imodintro
        iapply Hk
        · ipureintro; exact hr
        · iexact H
    · have ht' := ht
      unfold test at ht'
      have hgo : go B (k + 1) j s = s := by
        show (if _ then _ else _) = _
        rw [if_neg ht]
      rw [hgo]
      simp only [ht', ↓reduceIte, Prog.pure_eq_ret]
      iintro ⟨H, Hk⟩
      rw [wp_ret]; imodintro
      iapply Hk
      · ipureintro; rfl
      · iexact H

end Label

end Cert.KernelIdeal.Body

end
-- ==== Proof.RunKernelIdeal.lean ====
/-
  The kernel's run, for any float values: the body on any blocks (`sound_kernel`), the pipeline's data (`dats`), the
  obligation at every grid point (`body_obligation`) and the run of the whole program (`run_main`).
-/
module

public import proofs.«01_k».proof.Proof.BodyKernelIdeal

@[expose] public section

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

attribute [local irreducible] k0_pay1 k0_pay2 k0_pay3 k0_pay4 k0_pay5 k0_pay6 k0_pay7 k0_pay8 k0_pay9 k0_pay10 k0_pay11 k0_pay12 k0_pay13 k0_cond1 extractAt iota go stop

set_option maxHeartbeats 4000000 in
/-- The body on blocks `B`: it keeps them, and leaves `outBlk B` in the output's block. -/
theorem sound_kernel (c : Dev nD) (i : grid0.Coords) (arg1 : Memref sig .tc .vmem S1x20x128 .f32) (harg1 : arg1.IsWhole) (arg2 : Memref sig .tc .vmem S1x20x128 .f32) (harg2 : arg2.IsWhole) (arg3 : Memref sig .tc .vmem S1x20x128 .f32) (harg3 : arg3.IsWhole) (arg4 : Memref sig .tc .vmem S1x20x128 .f32) (harg4 : arg4.IsWhole) (arg5 : Memref sig .tc .vmem S1x5x2560 .f32) (harg5 : arg5.IsWhole) (arg6 : Memref sig .tc .smem S1x1x2560 .f32) (harg6 : arg6.IsWhole) (arg7 : Memref sig .tc .smem S1x1x2560 .f32) (harg7 : arg7.IsWhole) (arg8 : Memref sig .tc .smem S1x1x2560 .f32) (harg8 : arg8.IsWhole) (arg9 : Memref sig .tc .smem S1x1x2560 .f32) (harg9 : arg9.IsWhole) (arg10 : Memref sig .tc .vmem S1x5x256 .f32) (harg10 : arg10.IsWhole) (arg11 : Memref sig .tc .vmem S20x128 .i32) (harg11 : arg11.IsWhole) (arg12 : Memref sig .tc .vmem S1x256 .i32) (harg12 : arg12.IsWhole)
    (B : Blk F) (K : PUnit → sProp 𝕄) :
    iprop(owns (c : Thread nD τ) arg1 fullShare B.y1 ∗ owns (c : Thread nD τ) arg2 fullShare B.x1 ∗ owns (c : Thread nD τ) arg3 fullShare B.y2 ∗ owns (c : Thread nD τ) arg4 fullShare B.x2 ∗ owns (c : Thread nD τ) arg5 fullShare B.tab ∗ owns (c : Thread nD τ) arg6 fullShare B.sy1 ∗ owns (c : Thread nD τ) arg7 fullShare B.sx1 ∗ owns (c : Thread nD τ) arg8 fullShare B.sy2 ∗ owns (c : Thread nD τ) arg9 fullShare B.sx2 ∗ (∃ d, owns (c : Thread nD τ) arg10 fullShare d) ∗ (∃ d, owns (c : Thread nD τ) arg11 fullShare d) ∗ (∃ d, owns (c : Thread nD τ) arg12 fullShare d)
        ∗ (iprop(owns (c : Thread nD τ) arg1 fullShare B.y1 ∗ owns (c : Thread nD τ) arg2 fullShare B.x1 ∗ owns (c : Thread nD τ) arg3 fullShare B.y2 ∗ owns (c : Thread nD τ) arg4 fullShare B.x2 ∗ owns (c : Thread nD τ) arg5 fullShare B.tab ∗ owns (c : Thread nD τ) arg6 fullShare B.sy1 ∗ owns (c : Thread nD τ) arg7 fullShare B.sx1 ∗ owns (c : Thread nD τ) arg8 fullShare B.sy2 ∗ owns (c : Thread nD τ) arg9 fullShare B.sx2 ∗ owns (c : Thread nD τ) arg10 fullShare (outBlk B) ∗ (∃ d, owns (c : Thread nD τ) arg11 fullShare d) ∗ (∃ d, owns (c : Thread nD τ) arg12 fullShare d)) -∗ K ⟨⟩))
      ⊢ wp frame (wpE (defs₀ (F := F)) 𝒱₀ (c : Thread nD τ) none) Set.univ (cc0__nms_body i arg1 harg1 arg2 harg2 arg3 harg3 arg4 harg4 arg5 harg5 arg6 harg6 arg7 harg7 arg8 harg8 arg9 harg9 arg10 harg10 arg11 harg11 arg12 harg12) K := by
  simp only [cc0__nms_body_eq_skeleton]; unfold cc0__nms_body_skel
  simp only [k0_part1_eq_skeleton]; unfold k0_part1_skel
  simp only [Prog.lift, Prog.bind_op, Prog.bind_ret, Prog.pure_eq_ret]
  iintro ⟨H1, H2, H3, H4, H5, H6, H7, H8, H9, ⟨%d10, H10⟩, ⟨%d11, H11⟩, ⟨%d12, H12⟩, Hk⟩
  iapply (wp_load_full c none Set.univ (m := arg1) (off := ![0, 0, 0]) zeros3) $$ H1; iintro H1
  iapply (wp_load_full c none Set.univ (m := arg2) (off := ![0, 0, 0]) zeros3) $$ H2; iintro H2
  iapply (wp_load_full c none Set.univ (m := arg3) (off := ![0, 0, 0]) zeros3) $$ H3; iintro H3
  iapply (wp_load_full c none Set.univ (m := arg4) (off := ![0, 0, 0]) zeros3) $$ H4; iintro H4
  iapply (wp_load_full c none Set.univ (m := arg11) (off := ![0, 0]) zeros2) $$ H11; iintro H11
  iapply (wp_store_owns c none Set.univ (m := arg11) (off := ![0, 0]) zeros2) $$ H11; iintro H11
  iapply (wp_load_full c none Set.univ (m := arg12) (off := ![0, 0]) zeros2) $$ H12; iintro H12
  iapply (wp_store_owns c none Set.univ (m := arg12) (off := ![0, 0]) zeros2) $$ H12; iintro H12
  have hS := spec_le (F := F) c i arg6 harg6 arg7 harg7 arg8 harg8 arg9 harg9 arg11 harg11 arg12 harg12 B Set.univ 2500 0 (Nat.zero_add _) start
  rw [show (start (F := F)).cnt = 0#32 from rfl] at hS
  iapply (wp_call_spec 𝒱₀ (c : Thread nD τ) none Set.univ (spec c arg6 arg7 arg8 arg9 arg11 arg12 B 0 2500 start) 2500
    (fun u hu => nomatch hu) hS)
  rw [spec_apply]; unfold held
  isplitl [H6 H7 H8 H9 H11 H12]
  · isplitl [H6]; · iexact H6
    isplitl [H7]; · iexact H7
    isplitl [H8]; · iexact H8
    isplitl [H9]; · iexact H9
    isplitl [H11]; · iexact H11
    iexact H12
  iintro %r %hr ⟨H6, H7, H8, H9, H11, H12⟩
  obtain ⟨r1, r2⟩ := r
  dsimp only at hr
  subst hr
  simp only [Prog.bind_op, Prog.bind_ret, Prog.pure_eq_ret]
  iapply (wp_load_full c none Set.univ (m := arg12) (off := ![0, 0]) zeros2) $$ H12; iintro H12
  iapply (wp_load_full c none Set.univ (m := arg5) (off := ![0, 0, 0]) zeros3) $$ H5; iintro H5
  iapply (wp_load_full c none Set.univ (m := arg10) (off := ![0, 0, 0]) zeros3) $$ H10; iintro H10
  iapply (wp_store_owns c none Set.univ (m := arg10) (off := ![0, 0, 0]) zeros3) $$ H10; iintro H10
  rw [wp_ret]; imodintro
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]
  · rw [show outBlk B = k0_pay1 lane256 (go B 2500 0 start).cnt (go B 2500 0 start).sel (k0_pay12 (go B 2500 0 start).cnt) 0#32 B.tab from by unfold outBlk stop; rfl]
    iexact H10
  isplitl [H11]
  · iexists _; iexact H11
  iexists _; iexact H12

/-! ## The pipeline's data -/

variable (m : (ℓ : Loc nD τ sig) → Buf (Elt F) ℓ)

/-- The host operations before the launch, stretch by stretch. -/
abbrev pre : List (List (HloOp τ sig (Elt F))) :=
  [hostOps0, hostOps0_1, hostOps0_2, hostOps0_3, hostOps0_4, hostOps0_5, hostOps0_6, hostOps0_7, hostOps0_8, hostOps0_9,
    hostOps0_10, hostOps0_11, hostOps0_12]

/-- What each buffer holds when the launch is reached. -/
abbrev V (c : Dev nD) (b : Ref sig .tc) : Buf (Elt F) ((c : Thread nD τ).loc b) :=
  StableHlo.after (List.flatten (pre (F := F))) (fun b => m (c, b)) b

/-- Window `w`'s block at point `t`, of the arrays at the launch. -/
def iblk (c : Dev nD) (w : Fin (cfg0 (F := F)).W) (t : Fin (cfg0 (F := F)).N) :
    (((cfg0 (F := F)).win w).xblock ((cfg0 (F := F)).grid.coords t)).Idx → Elt F ((cfg0 (F := F)).win w).elt :=
  (((cfg0 (F := F)).win w).blk t).view.read (Elt F) (V m c (Pipeline.arrRef spec0 w))

/-- The blocks grid point `t` reads. -/
def blkAt (c : Dev nD) (t : Fin (cfg0 (F := F)).N) : Blk F :=
  ⟨iblk m c 0 t, iblk m c 1 t, iblk m c 2 t, iblk m c 3 t, iblk m c 4 t, iblk m c 5 t, iblk m c 6 t, iblk m c 7 t, iblk m c 8 t⟩

/-- The pipeline's data: the arrays at the launch, each input's block kept by the body, the output's block at `outBlk`. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => outBlk (blkAt m c t)
  Φ _ := Pipeline.ΦA spec0 c
  q _ := fullShare
  owed _ := 0

theorem A_eq (c : Dev nD) (w : Fin (cfg0 (F := F)).W) : (dats m 0 c).A w = V m c (Pipeline.arrRef spec0 w) := rfl

theorem after0_0 (c : Dev nD) (t : Fin (cfg0 (F := F)).N) : (dats m 0 c).after 0 t = iblk m c 0 t := rfl
theorem after0_1 (c : Dev nD) (t : Fin (cfg0 (F := F)).N) : (dats m 0 c).after 1 t = iblk m c 1 t := rfl
theorem after0_2 (c : Dev nD) (t : Fin (cfg0 (F := F)).N) : (dats m 0 c).after 2 t = iblk m c 2 t := rfl
theorem after0_3 (c : Dev nD) (t : Fin (cfg0 (F := F)).N) : (dats m 0 c).after 3 t = iblk m c 3 t := rfl
theorem after0_4 (c : Dev nD) (t : Fin (cfg0 (F := F)).N) : (dats m 0 c).after 4 t = iblk m c 4 t := rfl
theorem after0_5 (c : Dev nD) (t : Fin (cfg0 (F := F)).N) : (dats m 0 c).after 5 t = iblk m c 5 t := rfl
theorem after0_6 (c : Dev nD) (t : Fin (cfg0 (F := F)).N) : (dats m 0 c).after 6 t = iblk m c 6 t := rfl
theorem after0_7 (c : Dev nD) (t : Fin (cfg0 (F := F)).N) : (dats m 0 c).after 7 t = iblk m c 7 t := rfl
theorem after0_8 (c : Dev nD) (t : Fin (cfg0 (F := F)).N) : (dats m 0 c).after 8 t = iblk m c 8 t := rfl
theorem after0_9 (c : Dev nD) (t : Fin (cfg0 (F := F)).N) : (dats m 0 c).after 9 t = outBlk (blkAt m c t) := rfl
theorem before0_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after0_0]; unfold Dat.blockOf iblk; rw [A_eq]; try rfl) t d).trans
    (by unfold Dat.fetched Dat.blockOf iblk; rw [A_eq]; try rfl)
theorem before0_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after0_1]; unfold Dat.blockOf iblk; rw [A_eq]; try rfl) t d).trans
    (by unfold Dat.fetched Dat.blockOf iblk; rw [A_eq]; try rfl)
theorem before0_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after0_2]; unfold Dat.blockOf iblk; rw [A_eq]; try rfl) t d).trans
    (by unfold Dat.fetched Dat.blockOf iblk; rw [A_eq]; try rfl)
theorem before0_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after0_3]; unfold Dat.blockOf iblk; rw [A_eq]; try rfl) t d).trans
    (by unfold Dat.fetched Dat.blockOf iblk; rw [A_eq]; try rfl)
theorem before0_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after0_4]; unfold Dat.blockOf iblk; rw [A_eq]; try rfl) t d).trans
    (by unfold Dat.fetched Dat.blockOf iblk; rw [A_eq]; try rfl)
theorem before0_5 (c : Dev nD) (t : Fin (cfg0 (F := F)).N) (d) : (dats m 0 c).before 5 t d = iblk m c 5 t :=
  ((dats m 0 c).before_in_eq_fetched 5 rfl (fun _ => rfl) (fun _ _ _ => rfl)
    (fun t => by rw [after0_5]; unfold Dat.blockOf iblk; rw [A_eq]; try rfl) t d).trans
    (by unfold Dat.fetched Dat.blockOf iblk; rw [A_eq]; try rfl)
theorem before0_6 (c : Dev nD) (t : Fin (cfg0 (F := F)).N) (d) : (dats m 0 c).before 6 t d = iblk m c 6 t :=
  ((dats m 0 c).before_in_eq_fetched 6 rfl (fun _ => rfl) (fun _ _ _ => rfl)
    (fun t => by rw [after0_6]; unfold Dat.blockOf iblk; rw [A_eq]; try rfl) t d).trans
    (by unfold Dat.fetched Dat.blockOf iblk; rw [A_eq]; try rfl)
theorem before0_7 (c : Dev nD) (t : Fin (cfg0 (F := F)).N) (d) : (dats m 0 c).before 7 t d = iblk m c 7 t :=
  ((dats m 0 c).before_in_eq_fetched 7 rfl (fun _ => rfl) (fun _ _ _ => rfl)
    (fun t => by rw [after0_7]; unfold Dat.blockOf iblk; rw [A_eq]; try rfl) t d).trans
    (by unfold Dat.fetched Dat.blockOf iblk; rw [A_eq]; try rfl)
theorem before0_8 (c : Dev nD) (t : Fin (cfg0 (F := F)).N) (d) : (dats m 0 c).before 8 t d = iblk m c 8 t :=
  ((dats m 0 c).before_in_eq_fetched 8 rfl (fun _ => rfl) (fun _ _ _ => rfl)
    (fun t => by rw [after0_8]; unfold Dat.blockOf iblk; rw [A_eq]; try rfl) t d).trans
    (by unfold Dat.fetched Dat.blockOf iblk; rw [A_eq]; try rfl)

/-- What the body is entered with at point `t`. -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- What it leaves. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

/-- A whole buffer owned is the buffer's points-to. -/
theorem owns_out (c : Dev nD) (b : Ref sig .tc) (f : b.ty.Contents (Elt F)) :
    (owns (Ix := Unit) (Name := ℕ) (U := UR sig nD τ) (Lvl := ℕ) (c : Thread nD τ) (Memref.whole b) fullShare f : sProp 𝕄)
      ⊢ ((c : Thread nD τ).loc b) ↦{fullShare} f := by
  rw [owns_whole]

set_option maxHeartbeats 8000000 in
/-- The body at point `t`. -/
theorem sound_body (c : Dev nD) (t : Fin (cfg0 (F := F)).N) :
    bodyPre m c t ⊢ wp frame (wpE (defs₀ (F := F)) 𝒱₀ (c : Thread nD τ) none) Set.univ (bodyAt0 t) (fun _ => bodyPost m c t) := by
  unfold bodyPre bodyPost bodyAt0
  simp only [before0_0, before0_1, before0_2, before0_3, before0_4, before0_5, before0_6, before0_7, before0_8
]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9,
    show (dats m 0 c).Φ t.castSucc = Pipeline.ΦA spec0 c from rfl]
  unfold Pipeline.ΦA
  rw [scopedRest0_eq]
  iintro ⟨⟨⟨⟨%f0, S0⟩, ⟨%f1, S1⟩⟩, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel c (grid0.coords t) _ _ _ _ _ _ _ _ _ _ _ _ _ _ _ _ _ _ _ _ _ _ _ _ (blkAt m c t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [S0]; · iexists f0; rw [owns_whole]; iexact S0
  isplitl [S1]; · iexists f1; rw [owns_whole]; iexact S1
  iintro ⟨H0, H1, H2, H3, H4, H5, H6, H7, H8, H9, ⟨%e0, S0⟩, ⟨%e1, S1⟩⟩
  isplitl [S0 S1 Hp]
  · isplitl [S0 S1]
    · isplitl [S0]
      · iexists e0; iapply (owns_out c cc0_scratch0 e0) $$ S0
      · iexists e1; iapply (owns_out c cc0_scratch1 e1) $$ S1
    iexact Hp
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The obligation of the pipeline's every point. -/
theorem body_obligation (c : Dev nD) : BodyObligation (dats (F := F) m 0 c) (defs₀ (F := F)) 𝒱₀ () Set.univ := fun t => by
  rw [bigSep_W0, bigSep_W0]
  exact sound_body m c t

/-! ## The run -/

/-- No window's array is written by the operations after the launch. -/
theorem windows_not_tail : ∀ w : Fin 10, Pipeline.arrRef spec0 w ∉ ([main_v31, main_v32, main_v33, main_v34] : List (Ref sig .tc)) := by
  decide

theorem pre_sub : (pre (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub, hostOps0_7_sub,
    hostOps0_8_sub, hostOps0_9_sub, hostOps0_10_sub, hostOps0_11_sub, hostOps0_12_sub⟩

theorem pre_fresh : (pre (F := F)).Forall fun ops => ops.Forall fun op => op.fresh = ∅ := by
  simp only [List.Forall]; repeat' constructor

/-- The launch entered from any memory: the host operations before it run, then the pipeline, then the ones after. -/
theorem hmain : Pipeline.HMainK (Ix := Unit) (Name := ℕ) (U := UR sig nD τ) (Lvl := ℕ) cfgs 0 defs₀ 𝒱₀ m (main (F := F)) (V m)
    (fun _ => Pipeline.chain ([hostOps1].map StableHlo.seq)) :=
  Pipeline.hmain_around cfgs 0 defs₀ 𝒱₀ m (main (F := F)) pre [hostOps1] pre_sub pre_fresh main_chain

set_option backward.isDefEq.respectTransparency.types false in
/-- The run of the program: every window's array at what its blocks leave, every other buffer at what the operations after the
    launch make of the memory the launch leaves, every counter at zero. -/
theorem run_main (g : Dev nD → PrngReg) : θ_run defs (onTc (τ := τ) (main (F := F))) ⟨m, fun _ => 0, g⟩
    (fun r => Pipeline.FramePost cfgs (dats m) 0 (Pipeline.afterTail₀ cfgs (dats m) 0
      (fun c => StableHlo.after (List.flatten (pre (F := F))) (fun b => m (c, b))) [hostOps1]) r ∧ r.2.sem = fun _ => 0) :=
  Pipeline.θ_run_frame_around cfgs (dats m) (0 : Fin 1) launch0 defs₀ 𝒱₀ m g main
    (hbody := fun c => (body_obligation m c).loose) (hshare := fun c => (dats m 0 c).share_full fun _ => rfl)
    (howed := fun _ _ => rfl) (V₀ := fun c => StableHlo.after (List.flatten (pre (F := F))) (fun b => m (c, b))) (opss := [hostOps1])
    (hsub := by
      intro ops hops op hop
      rw [List.mem_singleton] at hops; subst hops
      exact Pipeline.sub_tailRefs _ _ op (List.forall_iff_forall_mem.mp hostOps1_sub op hop) (fun k => k.elim0))
    (hfresh := by
      intro ops hops op hop
      rw [List.mem_singleton] at hops; subst hops
      revert op
      exact List.forall_iff_forall_mem.mp (by simp only [List.Forall]; repeat' constructor))
    (hkeep := by
      intro ops hops op hop w
      rw [List.mem_singleton] at hops; subst hops
      have hw : ∀ w, Pipeline.arrRef (cfg0 (F := F)).spec w ∉ ([main_v31, main_v32, main_v33, main_v34] : List (Ref sig .tc)) :=
        windows_not_tail
      have hne : ∀ b ∈ ([main_v31, main_v32, main_v33, main_v34] : List (Ref sig .tc)),
          Proc.devRef (τ := τ) .tc (Pipeline.arrRef (cfg0 (F := F)).spec w) ∉ ({Proc.devRef .tc b} : Finset _) := fun b hb he =>
        hw w (by rw [Proc.devRef_injective _ (Finset.mem_singleton.mp he)]; exact hb)
      simp only [List.mem_cons, List.not_mem_nil, _root_.or_false] at hop
      rcases hop with rfl | rfl | rfl | rfl
      · exact hne main_v31 (by simp)
      · exact hne main_v32 (by simp)
      · exact hne main_v33 (by simp)
      · exact hne main_v34 (by simp))
    (hmain := hmain m) (hA := fun _ _ => rfl) (hΦ := fun _ _ => rfl)
    (Q' := _) (hQ' := fun _ h => h)

end Cert.KernelIdeal.Body

end
-- ==== Proof.ArgsKernelIdeal.lean ====
/-
  What the kernel's host operations leave alone: per stretch, the buffers it does not write; and the whole program's arguments.
-/
module

public import proofs.«01_k».proof.Proof.RunKernelIdeal
public import Idealize.ShloMosaic.Lib.StableHlo.RunLoop

@[expose] public section

set_option maxRecDepth 16384

noncomputable section

namespace Cert.KernelIdeal.Body

open Cert.KernelIdeal Cert.KernelIdeal.Gen
open Idealize.ShloMosaic Idealize.ShloMosaic.TcCoe
open Idealize.SL.Sem

variable {F : FTy → Type} [FloatOps F]

/-- A buffer that the stretch `hostOps0` does not write keeps its contents through it. -/
theorem keep_hostOps0 (X : Valuation τ sig (Elt F)) {r : Ref sig .tc} (h : r ∉ ([main_values, main_indices, main_v0, main_v1] : List (Ref sig .tc))) :
    StableHlo.after (hostOps0 : List (HloOp τ sig (Elt F))) X (Proc.devRef .tc r) = X (Proc.devRef .tc r) :=
  StableHlo.after_of_writes_sub _ X (StableHlo.forall_writes_sub_of_map rfl) h

/-- A buffer that the stretch `hostOps0_1` does not write keeps its contents through it. -/
theorem keep_hostOps0_1 (X : Valuation τ sig (Elt F)) {r : Ref sig .tc} (h : r ∉ ([main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_cst, main_call0_v14, main_v2] : List (Ref sig .tc))) :
    StableHlo.after (hostOps0_1 : List (HloOp τ sig (Elt F))) X (Proc.devRef .tc r) = X (Proc.devRef .tc r) :=
  StableHlo.after_of_writes_sub _ X (StableHlo.forall_writes_sub_of_map rfl) h

/-- A buffer that the stretch `hostOps0_2` does not write keeps its contents through it. -/
theorem keep_hostOps0_2 (X : Valuation τ sig (Elt F)) {r : Ref sig .tc} (h : r ∉ ([main_c] : List (Ref sig .tc))) :
    StableHlo.after (hostOps0_2 : List (HloOp τ sig (Elt F))) X (Proc.devRef .tc r) = X (Proc.devRef .tc r) :=
  StableHlo.after_of_writes_sub _ X (StableHlo.forall_writes_sub_of_map rfl) h

/-- A buffer that the stretch `hostOps0_3` does not write keeps its contents through it. -/
theorem keep_hostOps0_3 (X : Valuation τ sig (Elt F)) {r : Ref sig .tc} (h : r ∉ ([main_call1_v0, main_v3] : List (Ref sig .tc))) :
    StableHlo.after (hostOps0_3 : List (HloOp τ sig (Elt F))) X (Proc.devRef .tc r) = X (Proc.devRef .tc r) :=
  StableHlo.after_of_writes_sub _ X (StableHlo.forall_writes_sub_of_map rfl) h

/-- A buffer that the stretch `hostOps0_4` does not write keeps its contents through it. -/
theorem keep_hostOps0_4 (X : Valuation τ sig (Elt F)) {r : Ref sig .tc} (h : r ∉ ([main_v4, main_v5, main_c_0] : List (Ref sig .tc))) :
    StableHlo.after (hostOps0_4 : List (HloOp τ sig (Elt F))) X (Proc.devRef .tc r) = X (Proc.devRef .tc r) :=
  StableHlo.after_of_writes_sub _ X (StableHlo.forall_writes_sub_of_map rfl) h

/-- A buffer that the stretch `hostOps0_5` does not write keeps its contents through it. -/
theorem keep_hostOps0_5 (X : Valuation τ sig (Elt F)) {r : Ref sig .tc} (h : r ∉ ([main_call2_v0, main_v6] : List (Ref sig .tc))) :
    StableHlo.after (hostOps0_5 : List (HloOp τ sig (Elt F))) X (Proc.devRef .tc r) = X (Proc.devRef .tc r) :=
  StableHlo.after_of_writes_sub _ X (StableHlo.forall_writes_sub_of_map rfl) h

/-- A buffer that the stretch `hostOps0_6` does not write keeps its contents through it. -/
theorem keep_hostOps0_6 (X : Valuation τ sig (Elt F)) {r : Ref sig .tc} (h : r ∉ ([main_v7, main_v8, main_c_1] : List (Ref sig .tc))) :
    StableHlo.after (hostOps0_6 : List (HloOp τ sig (Elt F))) X (Proc.devRef .tc r) = X (Proc.devRef .tc r) :=
  StableHlo.after_of_writes_sub _ X (StableHlo.forall_writes_sub_of_map rfl) h

/-- A buffer that the stretch `hostOps0_7` does not write keeps its contents through it. -/
theorem keep_hostOps0_7 (X : Valuation τ sig (Elt F)) {r : Ref sig .tc} (h : r ∉ ([main_call3_v0, main_v9] : List (Ref sig .tc))) :
    StableHlo.after (hostOps0_7 : List (HloOp τ sig (Elt F))) X (Proc.devRef .tc r) = X (Proc.devRef .tc r) :=
  StableHlo.after_of_writes_sub _ X (StableHlo.forall_writes_sub_of_map rfl) h

/-- A buffer that the stretch `hostOps0_8` does not write keeps its contents through it. -/
theorem keep_hostOps0_8 (X : Valuation τ sig (Elt F)) {r : Ref sig .tc} (h : r ∉ ([main_v10, main_v11, main_c_2] : List (Ref sig .tc))) :
    StableHlo.after (hostOps0_8 : List (HloOp τ sig (Elt F))) X (Proc.devRef .tc r) = X (Proc.devRef .tc r) :=
  StableHlo.after_of_writes_sub _ X (StableHlo.forall_writes_sub_of_map rfl) h

/-- A buffer that the stretch `hostOps0_9` does not write keeps its contents through it. -/
theorem keep_hostOps0_9 (X : Valuation τ sig (Elt F)) {r : Ref sig .tc} (h : r ∉ ([main_call4_v0, main_v12] : List (Ref sig .tc))) :
    StableHlo.after (hostOps0_9 : List (HloOp τ sig (Elt F))) X (Proc.devRef .tc r) = X (Proc.devRef .tc r) :=
  StableHlo.after_of_writes_sub _ X (StableHlo.forall_writes_sub_of_map rfl) h

/-- A buffer that the stretch `hostOps0_10` does not write keeps its contents through it. -/
theorem keep_hostOps0_10 (X : Valuation τ sig (Elt F)) {r : Ref sig .tc} (h : r ∉ ([main_v13, main_v14, main_c_3] : List (Ref sig .tc))) :
    StableHlo.after (hostOps0_10 : List (HloOp τ sig (Elt F))) X (Proc.devRef .tc r) = X (Proc.devRef .tc r) :=
  StableHlo.after_of_writes_sub _ X (StableHlo.forall_writes_sub_of_map rfl) h

/-- A buffer that the stretch `hostOps0_11` does not write keeps its contents through it. -/
theorem keep_hostOps0_11 (X : Valuation τ sig (Elt F)) {r : Ref sig .tc} (h : r ∉ ([main_call5_v0, main_v15] : List (Ref sig .tc))) :
    StableHlo.after (hostOps0_11 : List (HloOp τ sig (Elt F))) X (Proc.devRef .tc r) = X (Proc.devRef .tc r) :=
  StableHlo.after_of_writes_sub _ X (StableHlo.forall_writes_sub_of_map rfl) h

/-- A buffer that the stretch `hostOps0_12` does not write keeps its contents through it. -/
theorem keep_hostOps0_12 (X : Valuation τ sig (Elt F)) {r : Ref sig .tc} (h : r ∉ ([main_v16, main_v17, main_v18, main_v19, main_v20, main_v21, main_v22, main_v23, main_v24, main_v25, main_v26, main_v27, main_v28, main_v29] : List (Ref sig .tc))) :
    StableHlo.after (hostOps0_12 : List (HloOp τ sig (Elt F))) X (Proc.devRef .tc r) = X (Proc.devRef .tc r) :=
  StableHlo.after_of_writes_sub _ X (StableHlo.forall_writes_sub_of_map rfl) h

/-- A buffer that the stretch `hostOps1` does not write keeps its contents through it. -/
theorem keep_hostOps1 (X : Valuation τ sig (Elt F)) {r : Ref sig .tc} (h : r ∉ ([main_v31, main_v32, main_v33, main_v34] : List (Ref sig .tc))) :
    StableHlo.after (hostOps1 : List (HloOp τ sig (Elt F))) X (Proc.devRef .tc r) = X (Proc.devRef .tc r) :=
  StableHlo.after_of_writes_sub _ X (StableHlo.forall_writes_sub_of_map rfl) h

/-- The arrays of the launch are none of the two arguments. -/
theorem arr_ne_arg0 : ∀ w : Fin 10, Pipeline.arrRef spec0 w ≠ main_arg0 := by decide
theorem arr_ne_arg1 : ∀ w : Fin 10, Pipeline.arrRef spec0 w ≠ main_arg1 := by decide

variable (m : (ℓ : Loc nD τ sig) → Buf (Elt F) ℓ)

/-- The host operations before the launch leave the two arguments alone. -/
theorem V_arg0 (c : Dev nD) : V m c main_arg0 = m ((c : Thread nD τ).loc main_arg0) := by
  show StableHlo.after (List.flatten pre) _ _ = _
  rw [← StableHlo.afterL_eq_after_flatten]
  simp only [pre, StableHlo.afterL_cons, StableHlo.afterL_nil]
  exact (keep_hostOps0_12 _ (by decide)).trans <| (keep_hostOps0_11 _ (by decide)).trans <| (keep_hostOps0_10 _ (by decide)).trans <| (keep_hostOps0_9 _ (by decide)).trans <| (keep_hostOps0_8 _ (by decide)).trans <| (keep_hostOps0_7 _ (by decide)).trans <| (keep_hostOps0_6 _ (by decide)).trans <| (keep_hostOps0_5 _ (by decide)).trans <| (keep_hostOps0_4 _ (by decide)).trans <| (keep_hostOps0_3 _ (by decide)).trans <| (keep_hostOps0_2 _ (by decide)).trans <| (keep_hostOps0_1 _ (by decide)).trans <| (keep_hostOps0 _ (by decide)).trans <| rfl
theorem V_arg1 (c : Dev nD) : V m c main_arg1 = m ((c : Thread nD τ).loc main_arg1) := by
  show StableHlo.after (List.flatten pre) _ _ = _
  rw [← StableHlo.afterL_eq_after_flatten]
  simp only [pre, StableHlo.afterL_cons, StableHlo.afterL_nil]
  exact (keep_hostOps0_12 _ (by decide)).trans <| (keep_hostOps0_11 _ (by decide)).trans <| (keep_hostOps0_10 _ (by decide)).trans <| (keep_hostOps0_9 _ (by decide)).trans <| (keep_hostOps0_8 _ (by decide)).trans <| (keep_hostOps0_7 _ (by decide)).trans <| (keep_hostOps0_6 _ (by decide)).trans <| (keep_hostOps0_5 _ (by decide)).trans <| (keep_hostOps0_4 _ (by decide)).trans <| (keep_hostOps0_3 _ (by decide)).trans <| (keep_hostOps0_2 _ (by decide)).trans <| (keep_hostOps0_1 _ (by decide)).trans <| (keep_hostOps0 _ (by decide)).trans <| rfl
/-- The whole program leaves the two arguments alone. -/
theorem tail_arg0 (c : Dev nD) : Pipeline.afterTail₀ cfgs (dats m) 0 (fun c => StableHlo.after (List.flatten (pre (F := F))) (fun b => m (c, b))) [hostOps1] c main_arg0
    = m ((c : Thread nD τ).loc main_arg0) := by
  unfold Pipeline.afterTail₀
  rw [← StableHlo.afterL_eq_after_flatten]
  simp only [StableHlo.afterL_cons, StableHlo.afterL_nil]
  rw [keep_hostOps1 _ (by decide), Pipeline.withArrays_of_ne _ _ _ _ _ arr_ne_arg0]
  exact V_arg0 m c
theorem tail_arg1 (c : Dev nD) : Pipeline.afterTail₀ cfgs (dats m) 0 (fun c => StableHlo.after (List.flatten (pre (F := F))) (fun b => m (c, b))) [hostOps1] c main_arg1
    = m ((c : Thread nD τ).loc main_arg1) := by
  unfold Pipeline.afterTail₀
  rw [← StableHlo.afterL_eq_after_flatten]
  simp only [StableHlo.afterL_cons, StableHlo.afterL_nil]
  rw [keep_hostOps1 _ (by decide), Pipeline.withArrays_of_ne _ _ _ _ _ arr_ne_arg1]
  exact V_arg1 m c

/-- The two arguments and the two results are arrays of no window. -/
theorem args_rest : main_arg0 ∈ Pipeline.restRefs sig spec0 ∧ main_arg1 ∈ Pipeline.restRefs sig spec0
    ∧ main_v32 ∈ Pipeline.restRefs sig spec0 ∧ main_v34 ∈ Pipeline.restRefs sig spec0 := by decide

/-- The frame: the program runs, its arguments end as they were, every counter ends at zero. -/
theorem frame_main (g : Dev nD → PrngReg) : θ_run defs (onTc (τ := τ) (main (F := F))) ⟨m, fun _ => 0, g⟩
    (fun r => (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨((h.1 c).2 main_arg0 args_rest.1).trans (tail_arg0 m c),
    ((h.1 c).2 main_arg1 args_rest.2.1).trans (tail_arg1 m c)⟩, h.2⟩) (run_main m g)

end Cert.KernelIdeal.Body

end
-- ==== Proof.TermsKernelIdeal.lean ====
/-
  The kernel's host stretches as terms: per stretch and result, the term its operations compose, and that the stretch leaves
  exactly that term.
-/
module

public import proofs.«01_k».proof.Proof.ArgsKernelIdeal
public import Idealize.ShloMosaic.Lib.Pointwise

@[expose] public section

set_option maxRecDepth 16384

noncomputable section

namespace Cert.KernelIdeal.Body

open Cert.KernelIdeal Cert.KernelIdeal.Gen
open Idealize.ShloMosaic Idealize.ShloMosaic.TcCoe Idealize.ShloMosaic.StableHlo
open Idealize.SL.Sem

/-- The largest values in order. -/
def valTerm (arg0 : FVec Ideal S8x5000 .f32) : FVec Ideal S8x2500 .f32 :=
  have values : FVec Ideal S8x2500 .f32 := (fun x => (Host.topK S8x2500 1 (FloatOps.cmpfTotal .gt) x sliceFits_S8x5000_S8x2500).1) arg0
  values

set_option maxRecDepth 100000 in
/-- `main_values` after its stretch is that term of what the stretch read. -/
theorem valTerm_eq (V : Valuation τ sig (Elt Ideal)) :
    after (hostOps0 : List (HloOp τ sig (Elt Ideal))) V (Proc.devRef .tc main_values) = valTerm (V (Proc.devRef .tc main_arg0)) := by
  after_results
  rfl

/-- The positions of the largest values, spread over the four coordinates. -/
def wideTerm (arg0 : FVec Ideal S8x5000 .f32) : IVec S8x2500x4 32 :=
  have indices : IVec S8x2500 32 := (fun x => (Host.topK S8x2500 1 (FloatOps.cmpfTotal .gt) x sliceFits_S8x5000_S8x2500).2) arg0
  have v0 : IVec S8x2500x1 32 := (broadcastInDim S8x2500x1 ![0, 1] bcast_S8x2500_S8x2500x1_0_1) indices
  have v1 : IVec S8x2500x4 32 := (broadcastInDim S8x2500x4 ![0, 1, 2] bcast_S8x2500x1_S8x2500x4_0_1_2) v0
  v1

set_option maxRecDepth 100000 in
/-- `main_v1` after its stretch is that term of what the stretch read. -/
theorem wideTerm_eq (V : Valuation τ sig (Elt Ideal)) :
    after (hostOps0 : List (HloOp τ sig (Elt Ideal))) V (Proc.devRef .tc main_v1) = wideTerm (V (Proc.devRef .tc main_arg0)) := by
  after_results
  rfl

/-- The boxes taken along the index array. -/
def boxTerm (v1 : IVec S8x2500x4 32) (arg1 : FVec Ideal S8x5000x4 .f32) : FVec Ideal S8x2500x4 .f32 :=
  have call0_c : IVec S_ 32 := constantI S_ 32 0#32
  have call0_v0 : IVec S8x2500x4 32 := (broadcastInDim S8x2500x4 ![] bcast_S_S8x2500x4) call0_c
  have call0_v1 : IVec S8x2500x4 1 := (cmpi .slt) v1 call0_v0
  have call0_c_0 : IVec S_ 32 := constantI S_ 32 5000#32
  have call0_v2 : IVec S8x2500x4 32 := (broadcastInDim S8x2500x4 ![] bcast_S_S8x2500x4) call0_c_0
  have call0_v3 : IVec S8x2500x4 32 := (addi) v1 call0_v2
  have call0_v4 : IVec S8x2500x4 32 := (select) call0_v1 call0_v3 v1
  have call0_v5 : IVec S8x2500x4x1 32 := shapeCast S8x2500x4x1 call0_v4 shapeCasts_S8x2500x4_S8x2500x4x1
  have call0_c_2 : IVec S_ 32 := constantI S_ 32 0#32
  have call0_v6 : IVec S8x2500x4x1 32 := (broadcastInDim S8x2500x4x1 ![] bcast_S_S8x2500x4x1) call0_c_2
  have call0_v7 : IVec S8x2500x4x1 1 := (cmpi .sge) call0_v5 call0_v6
  have call0_c_1 : IVec S1 32 := constantI S1 32 4999#32
  have call0_v8 : IVec S1x1x1x1 32 := (broadcastInDim S1x1x1x1 ![3] bcast_S1_S1x1x1x1_3) call0_c_1
  have call0_v9 : IVec S8x2500x4x1 32 := (broadcastInDim S8x2500x4x1 ![0, 1, 2, 3] bcast_S1x1x1x1_S8x2500x4x1_0_1_2_3) call0_v8
  have call0_v10 : IVec S8x2500x4x1 1 := (cmpi .sle) call0_v5 call0_v9
  have call0_v11 : IVec S8x2500x4x1 1 := (andi) call0_v7 call0_v10
  have call0_c_3 : IVec S_ 1 := constantI S_ 1 1#1
  have call0_v12 : IVec S8x2500x4 1 := (fun x v => Host.reduce IntOp.andi x v reducesTo_S8x2500x4x1_S8x2500x4_d3 h_S_) call0_v11 call0_c_3
  have call0_v13 : FVec Ideal S8x2500x4 .f32 := (fun x i => Host.gather gather_S8x5000x4_S8x2500x4x1_S8x2500x4_n_1_02_02_1_3_111 x i) arg1 call0_v5
  have call0_cst : FVec Ideal S_ .f32 := constant S_ .f32 0x7FC00000#32
  have call0_v14 : FVec Ideal S8x2500x4 .f32 := (broadcastInDim S8x2500x4 ![] bcast_S_S8x2500x4) call0_cst
  have v2 : FVec Ideal S8x2500x4 .f32 := (select) call0_v12 call0_v13 call0_v14
  v2

set_option maxRecDepth 100000 in
/-- `main_v2` after its stretch is that term of what the stretch read. -/
theorem boxTerm_eq (V : Valuation τ sig (Elt Ideal)) :
    after (hostOps0_1 : List (HloOp τ sig (Elt Ideal))) V (Proc.devRef .tc main_v2) = boxTerm (V (Proc.devRef .tc main_v1)) (V (Proc.devRef .tc main_arg1)) := by
  after_results
  rfl

/-- The filler. -/
def c0Term  : IVec S_ 32 :=
  have c : IVec S_ 32 := constantI S_ 32 0#32
  c

set_option maxRecDepth 100000 in
/-- `main_c` after its stretch is that term of what the stretch read. -/
theorem c0Term_eq (V : Valuation τ sig (Elt Ideal)) :
    after (hostOps0_2 : List (HloOp τ sig (Elt Ideal))) V (Proc.devRef .tc main_c) = c0Term  := by
  after_results
  rfl

/-- The values, padded. -/
def padTerm (values : FVec Ideal S8x2500 .f32) (c : IVec S_ 32) : FVec Ideal S8x2560 .f32 :=
  have call1_v0 : FVec Ideal S_ .f32 := (sitofp .f32) c
  have v3 : FVec Ideal S8x2560 .f32 := (fun x v => pad S8x2560 ![0, 0] ![0, 60] ![0, 0] x v pads_S8x2500_S8x2560_000_0600 h_S_) values call1_v0
  v3

set_option maxRecDepth 100000 in
/-- `main_v3` after its stretch is that term of what the stretch read. -/
theorem padTerm_eq (V : Valuation τ sig (Elt Ideal)) :
    after (hostOps0_3 : List (HloOp τ sig (Elt Ideal))) V (Proc.devRef .tc main_v3) = padTerm (V (Proc.devRef .tc main_values)) (V (Proc.devRef .tc main_c)) := by
  after_results
  rfl

/-- Coordinate 0 of the boxes. -/
def colY1Term (v2 : FVec Ideal S8x2500x4 .f32) : FVec Ideal S8x2500 .f32 :=
  have v4 : FVec Ideal S8x2500x1 .f32 := (extractStridedSlice S8x2500x1 ![0, 0, 0] · slices_S8x2500x4_S8x2500x1_0_0_0) v2
  have v5 : FVec Ideal S8x2500 .f32 := shapeCast S8x2500 v4 shapeCasts_S8x2500x1_S8x2500
  v5

set_option maxRecDepth 100000 in
/-- `main_v5` after its stretch is that term of what the stretch read. -/
theorem colY1Term_eq (V : Valuation τ sig (Elt Ideal)) :
    after (hostOps0_4 : List (HloOp τ sig (Elt Ideal))) V (Proc.devRef .tc main_v5) = colY1Term (V (Proc.devRef .tc main_v2)) := by
  after_results
  rfl

/-- The filler. -/
def cY1Term  : IVec S_ 32 :=
  have c_0 : IVec S_ 32 := constantI S_ 32 0#32
  c_0

set_option maxRecDepth 100000 in
/-- `main_c_0` after its stretch is that term of what the stretch read. -/
theorem cY1Term_eq (V : Valuation τ sig (Elt Ideal)) :
    after (hostOps0_4 : List (HloOp τ sig (Elt Ideal))) V (Proc.devRef .tc main_c_0) = cY1Term  := by
  after_results
  rfl

/-- Coordinate 0, padded. -/
def padY1Term (v5 : FVec Ideal S8x2500 .f32) (c_0 : IVec S_ 32) : FVec Ideal S8x2560 .f32 :=
  have call2_v0 : FVec Ideal S_ .f32 := (sitofp .f32) c_0
  have v6 : FVec Ideal S8x2560 .f32 := (fun x v => pad S8x2560 ![0, 0] ![0, 60] ![0, 0] x v pads_S8x2500_S8x2560_000_0600 h_S_) v5 call2_v0
  v6

set_option maxRecDepth 100000 in
/-- `main_v6` after its stretch is that term of what the stretch read. -/
theorem padY1Term_eq (V : Valuation τ sig (Elt Ideal)) :
    after (hostOps0_5 : List (HloOp τ sig (Elt Ideal))) V (Proc.devRef .tc main_v6) = padY1Term (V (Proc.devRef .tc main_v5)) (V (Proc.devRef .tc main_c_0)) := by
  after_results
  rfl

/-- Coordinate 1 of the boxes. -/
def colX1Term (v2 : FVec Ideal S8x2500x4 .f32) : FVec Ideal S8x2500 .f32 :=
  have v7 : FVec Ideal S8x2500x1 .f32 := (extractStridedSlice S8x2500x1 ![0, 0, 1] · slices_S8x2500x4_S8x2500x1_0_0_1) v2
  have v8 : FVec Ideal S8x2500 .f32 := shapeCast S8x2500 v7 shapeCasts_S8x2500x1_S8x2500
  v8

set_option maxRecDepth 100000 in
/-- `main_v8` after its stretch is that term of what the stretch read. -/
theorem colX1Term_eq (V : Valuation τ sig (Elt Ideal)) :
    after (hostOps0_6 : List (HloOp τ sig (Elt Ideal))) V (Proc.devRef .tc main_v8) = colX1Term (V (Proc.devRef .tc main_v2)) := by
  after_results
  rfl

/-- The filler. -/
def cX1Term  : IVec S_ 32 :=
  have c_1 : IVec S_ 32 := constantI S_ 32 0#32
  c_1

set_option maxRecDepth 100000 in
/-- `main_c_1` after its stretch is that term of what the stretch read. -/
theorem cX1Term_eq (V : Valuation τ sig (Elt Ideal)) :
    after (hostOps0_6 : List (HloOp τ sig (Elt Ideal))) V (Proc.devRef .tc main_c_1) = cX1Term  := by
  after_results
  rfl

/-- Coordinate 1, padded. -/
def padX1Term (v8 : FVec Ideal S8x2500 .f32) (c_1 : IVec S_ 32) : FVec Ideal S8x2560 .f32 :=
  have call3_v0 : FVec Ideal S_ .f32 := (sitofp .f32) c_1
  have v9 : FVec Ideal S8x2560 .f32 := (fun x v => pad S8x2560 ![0, 0] ![0, 60] ![0, 0] x v pads_S8x2500_S8x2560_000_0600 h_S_) v8 call3_v0
  v9

set_option maxRecDepth 100000 in
/-- `main_v9` after its stretch is that term of what the stretch read. -/
theorem padX1Term_eq (V : Valuation τ sig (Elt Ideal)) :
    after (hostOps0_7 : List (HloOp τ sig (Elt Ideal))) V (Proc.devRef .tc main_v9) = padX1Term (V (Proc.devRef .tc main_v8)) (V (Proc.devRef .tc main_c_1)) := by
  after_results
  rfl

/-- Coordinate 2 of the boxes. -/
def colY2Term (v2 : FVec Ideal S8x2500x4 .f32) : FVec Ideal S8x2500 .f32 :=
  have v10 : FVec Ideal S8x2500x1 .f32 := (extractStridedSlice S8x2500x1 ![0, 0, 2] · slices_S8x2500x4_S8x2500x1_0_0_2) v2
  have v11 : FVec Ideal S8x2500 .f32 := shapeCast S8x2500 v10 shapeCasts_S8x2500x1_S8x2500
  v11

set_option maxRecDepth 100000 in
/-- `main_v11` after its stretch is that term of what the stretch read. -/
theorem colY2Term_eq (V : Valuation τ sig (Elt Ideal)) :
    after (hostOps0_8 : List (HloOp τ sig (Elt Ideal))) V (Proc.devRef .tc main_v11) = colY2Term (V (Proc.devRef .tc main_v2)) := by
  after_results
  rfl

/-- The filler. -/
def cY2Term  : IVec S_ 32 :=
  have c_2 : IVec S_ 32 := constantI S_ 32 0#32
  c_2

set_option maxRecDepth 100000 in
/-- `main_c_2` after its stretch is that term of what the stretch read. -/
theorem cY2Term_eq (V : Valuation τ sig (Elt Ideal)) :
    after (hostOps0_8 : List (HloOp τ sig (Elt Ideal))) V (Proc.devRef .tc main_c_2) = cY2Term  := by
  after_results
  rfl

/-- Coordinate 2, padded. -/
def padY2Term (v11 : FVec Ideal S8x2500 .f32) (c_2 : IVec S_ 32) : FVec Ideal S8x2560 .f32 :=
  have call4_v0 : FVec Ideal S_ .f32 := (sitofp .f32) c_2
  have v12 : FVec Ideal S8x2560 .f32 := (fun x v => pad S8x2560 ![0, 0] ![0, 60] ![0, 0] x v pads_S8x2500_S8x2560_000_0600 h_S_) v11 call4_v0
  v12

set_option maxRecDepth 100000 in
/-- `main_v12` after its stretch is that term of what the stretch read. -/
theorem padY2Term_eq (V : Valuation τ sig (Elt Ideal)) :
    after (hostOps0_9 : List (HloOp τ sig (Elt Ideal))) V (Proc.devRef .tc main_v12) = padY2Term (V (Proc.devRef .tc main_v11)) (V (Proc.devRef .tc main_c_2)) := by
  after_results
  rfl

/-- Coordinate 3 of the boxes. -/
def colX2Term (v2 : FVec Ideal S8x2500x4 .f32) : FVec Ideal S8x2500 .f32 :=
  have v13 : FVec Ideal S8x2500x1 .f32 := (extractStridedSlice S8x2500x1 ![0, 0, 3] · slices_S8x2500x4_S8x2500x1_0_0_3) v2
  have v14 : FVec Ideal S8x2500 .f32 := shapeCast S8x2500 v13 shapeCasts_S8x2500x1_S8x2500
  v14

set_option maxRecDepth 100000 in
/-- `main_v14` after its stretch is that term of what the stretch read. -/
theorem colX2Term_eq (V : Valuation τ sig (Elt Ideal)) :
    after (hostOps0_10 : List (HloOp τ sig (Elt Ideal))) V (Proc.devRef .tc main_v14) = colX2Term (V (Proc.devRef .tc main_v2)) := by
  after_results
  rfl

/-- The filler. -/
def cX2Term  : IVec S_ 32 :=
  have c_3 : IVec S_ 32 := constantI S_ 32 0#32
  c_3

set_option maxRecDepth 100000 in
/-- `main_c_3` after its stretch is that term of what the stretch read. -/
theorem cX2Term_eq (V : Valuation τ sig (Elt Ideal)) :
    after (hostOps0_10 : List (HloOp τ sig (Elt Ideal))) V (Proc.devRef .tc main_c_3) = cX2Term  := by
  after_results
  rfl

/-- Coordinate 3, padded. -/
def padX2Term (v14 : FVec Ideal S8x2500 .f32) (c_3 : IVec S_ 32) : FVec Ideal S8x2560 .f32 :=
  have call5_v0 : FVec Ideal S_ .f32 := (sitofp .f32) c_3
  have v15 : FVec Ideal S8x2560 .f32 := (fun x v => pad S8x2560 ![0, 0] ![0, 60] ![0, 0] x v pads_S8x2500_S8x2560_000_0600 h_S_) v14 call5_v0
  v15

set_option maxRecDepth 100000 in
/-- `main_v15` after its stretch is that term of what the stretch read. -/
theorem padX2Term_eq (V : Valuation τ sig (Elt Ideal)) :
    after (hostOps0_11 : List (HloOp τ sig (Elt Ideal))) V (Proc.devRef .tc main_v15) = padX2Term (V (Proc.devRef .tc main_v14)) (V (Proc.devRef .tc main_c_3)) := by
  after_results
  rfl

/-- The table of the values and the four coordinates. -/
def tabTerm (v3 : FVec Ideal S8x2560 .f32) (v6 : FVec Ideal S8x2560 .f32) (v9 : FVec Ideal S8x2560 .f32) (v12 : FVec Ideal S8x2560 .f32) (v15 : FVec Ideal S8x2560 .f32) : FVec Ideal S8x5x2560 .f32 :=
  have v16 : FVec Ideal S8x1x2560 .f32 := (broadcastInDim S8x1x2560 ![0, 2] bcast_S8x2560_S8x1x2560_0_2) v3
  have v17 : FVec Ideal S8x1x2560 .f32 := (broadcastInDim S8x1x2560 ![0, 2] bcast_S8x2560_S8x1x2560_0_2) v6
  have v18 : FVec Ideal S8x1x2560 .f32 := (broadcastInDim S8x1x2560 ![0, 2] bcast_S8x2560_S8x1x2560_0_2) v9
  have v19 : FVec Ideal S8x1x2560 .f32 := (broadcastInDim S8x1x2560 ![0, 2] bcast_S8x2560_S8x1x2560_0_2) v12
  have v20 : FVec Ideal S8x1x2560 .f32 := (broadcastInDim S8x1x2560 ![0, 2] bcast_S8x2560_S8x1x2560_0_2) v15
  have v21 : FVec Ideal S8x5x2560 .f32 := concatenate S8x5x2560 1 [⟨S8x1x2560, v16⟩, ⟨S8x1x2560, v17⟩, ⟨S8x1x2560, v18⟩, ⟨S8x1x2560, v19⟩, ⟨S8x1x2560, v20⟩] concatenates_S8x1x2560_S8x1x2560_S8x1x2560_S8x1x2560_S8x1x2560_S8x5x2560_d1
  v21

set_option maxRecDepth 100000 in
/-- `main_v21` after its stretch is that term of what the stretch read. -/
theorem tabTerm_eq (V : Valuation τ sig (Elt Ideal)) :
    after (hostOps0_12 : List (HloOp τ sig (Elt Ideal))) V (Proc.devRef .tc main_v21) = tabTerm (V (Proc.devRef .tc main_v3)) (V (Proc.devRef .tc main_v6)) (V (Proc.devRef .tc main_v9)) (V (Proc.devRef .tc main_v12)) (V (Proc.devRef .tc main_v15)) := by
  after_results
  rfl

/-- Coordinate 0 as a grid. -/
def gridY1Term (v6 : FVec Ideal S8x2560 .f32) : FVec Ideal S8x20x128 .f32 :=
  have v22 : FVec Ideal S8x20x128 .f32 := shapeCast S8x20x128 v6 shapeCasts_S8x2560_S8x20x128
  v22

set_option maxRecDepth 100000 in
/-- `main_v22` after its stretch is that term of what the stretch read. -/
theorem gridY1Term_eq (V : Valuation τ sig (Elt Ideal)) :
    after (hostOps0_12 : List (HloOp τ sig (Elt Ideal))) V (Proc.devRef .tc main_v22) = gridY1Term (V (Proc.devRef .tc main_v6)) := by
  after_results
  rfl

/-- Coordinate 0 as a line. -/
def lineY1Term (v6 : FVec Ideal S8x2560 .f32) : FVec Ideal S8x1x2560 .f32 :=
  have v26 : FVec Ideal S8x1x2560 .f32 := shapeCast S8x1x2560 v6 shapeCasts_S8x2560_S8x1x2560
  v26

set_option maxRecDepth 100000 in
/-- `main_v26` after its stretch is that term of what the stretch read. -/
theorem lineY1Term_eq (V : Valuation τ sig (Elt Ideal)) :
    after (hostOps0_12 : List (HloOp τ sig (Elt Ideal))) V (Proc.devRef .tc main_v26) = lineY1Term (V (Proc.devRef .tc main_v6)) := by
  after_results
  rfl

/-- Coordinate 1 as a grid. -/
def gridX1Term (v9 : FVec Ideal S8x2560 .f32) : FVec Ideal S8x20x128 .f32 :=
  have v23 : FVec Ideal S8x20x128 .f32 := shapeCast S8x20x128 v9 shapeCasts_S8x2560_S8x20x128
  v23

set_option maxRecDepth 100000 in
/-- `main_v23` after its stretch is that term of what the stretch read. -/
theorem gridX1Term_eq (V : Valuation τ sig (Elt Ideal)) :
    after (hostOps0_12 : List (HloOp τ sig (Elt Ideal))) V (Proc.devRef .tc main_v23) = gridX1Term (V (Proc.devRef .tc main_v9)) := by
  after_results
  rfl

/-- Coordinate 1 as a line. -/
def lineX1Term (v9 : FVec Ideal S8x2560 .f32) : FVec Ideal S8x1x2560 .f32 :=
  have v27 : FVec Ideal S8x1x2560 .f32 := shapeCast S8x1x2560 v9 shapeCasts_S8x2560_S8x1x2560
  v27

set_option maxRecDepth 100000 in
/-- `main_v27` after its stretch is that term of what the stretch read. -/
theorem lineX1Term_eq (V : Valuation τ sig (Elt Ideal)) :
    after (hostOps0_12 : List (HloOp τ sig (Elt Ideal))) V (Proc.devRef .tc main_v27) = lineX1Term (V (Proc.devRef .tc main_v9)) := by
  after_results
  rfl

/-- Coordinate 2 as a grid. -/
def gridY2Term (v12 : FVec Ideal S8x2560 .f32) : FVec Ideal S8x20x128 .f32 :=
  have v24 : FVec Ideal S8x20x128 .f32 := shapeCast S8x20x128 v12 shapeCasts_S8x2560_S8x20x128
  v24

set_option maxRecDepth 100000 in
/-- `main_v24` after its stretch is that term of what the stretch read. -/
theorem gridY2Term_eq (V : Valuation τ sig (Elt Ideal)) :
    after (hostOps0_12 : List (HloOp τ sig (Elt Ideal))) V (Proc.devRef .tc main_v24) = gridY2Term (V (Proc.devRef .tc main_v12)) := by
  after_results
  rfl

/-- Coordinate 2 as a line. -/
def lineY2Term (v12 : FVec Ideal S8x2560 .f32) : FVec Ideal S8x1x2560 .f32 :=
  have v28 : FVec Ideal S8x1x2560 .f32 := shapeCast S8x1x2560 v12 shapeCasts_S8x2560_S8x1x2560
  v28

set_option maxRecDepth 100000 in
/-- `main_v28` after its stretch is that term of what the stretch read. -/
theorem lineY2Term_eq (V : Valuation τ sig (Elt Ideal)) :
    after (hostOps0_12 : List (HloOp τ sig (Elt Ideal))) V (Proc.devRef .tc main_v28) = lineY2Term (V (Proc.devRef .tc main_v12)) := by
  after_results
  rfl

/-- Coordinate 3 as a grid. -/
def gridX2Term (v15 : FVec Ideal S8x2560 .f32) : FVec Ideal S8x20x128 .f32 :=
  have v25 : FVec Ideal S8x20x128 .f32 := shapeCast S8x20x128 v15 shapeCasts_S8x2560_S8x20x128
  v25

set_option maxRecDepth 100000 in
/-- `main_v25` after its stretch is that term of what the stretch read. -/
theorem gridX2Term_eq (V : Valuation τ sig (Elt Ideal)) :
    after (hostOps0_12 : List (HloOp τ sig (Elt Ideal))) V (Proc.devRef .tc main_v25) = gridX2Term (V (Proc.devRef .tc main_v15)) := by
  after_results
  rfl

/-- Coordinate 3 as a line. -/
def lineX2Term (v15 : FVec Ideal S8x2560 .f32) : FVec Ideal S8x1x2560 .f32 :=
  have v29 : FVec Ideal S8x1x2560 .f32 := shapeCast S8x1x2560 v15 shapeCasts_S8x2560_S8x1x2560
  v29

set_option maxRecDepth 100000 in
/-- `main_v29` after its stretch is that term of what the stretch read. -/
theorem lineX2Term_eq (V : Valuation τ sig (Elt Ideal)) :
    after (hostOps0_12 : List (HloOp τ sig (Elt Ideal))) V (Proc.devRef .tc main_v29) = lineX2Term (V (Proc.devRef .tc main_v15)) := by
  after_results
  rfl

/-- The first row of the output table. -/
def res0Term (v30 : FVec Ideal S8x5x256 .f32) : FVec Ideal S8x200 .f32 :=
  have v31 : FVec Ideal S8x1x200 .f32 := (extractStridedSlice S8x1x200 ![0, 0, 0] · slices_S8x5x256_S8x1x200_0_0_0) v30
  have v32 : FVec Ideal S8x200 .f32 := shapeCast S8x200 v31 shapeCasts_S8x1x200_S8x200
  v32

set_option maxRecDepth 100000 in
/-- `main_v32` after its stretch is that term of what the stretch read. -/
theorem res0Term_eq (V : Valuation τ sig (Elt Ideal)) :
    after (hostOps1 : List (HloOp τ sig (Elt Ideal))) V (Proc.devRef .tc main_v32) = res0Term (V (Proc.devRef .tc main_v30)) := by
  after_results
  rfl

/-- The other rows of the output table, turned. -/
def res1Term (v30 : FVec Ideal S8x5x256 .f32) : FVec Ideal S8x200x4 .f32 :=
  have v33 : FVec Ideal S8x4x200 .f32 := (extractStridedSlice S8x4x200 ![0, 1, 0] · slices_S8x5x256_S8x4x200_0_1_0) v30
  have v34 : FVec Ideal S8x200x4 .f32 := (transpose S8x200x4 [0, 2, 1] · transposes_S8x4x200_S8x200x4_0_2_1) v33
  v34

set_option maxRecDepth 100000 in
/-- `main_v34` after its stretch is that term of what the stretch read. -/
theorem res1Term_eq (V : Valuation τ sig (Elt Ideal)) :
    after (hostOps1 : List (HloOp τ sig (Elt Ideal))) V (Proc.devRef .tc main_v34) = res1Term (V (Proc.devRef .tc main_v30)) := by
  after_results
  rfl

end Cert.KernelIdeal.Body

end
-- ==== Proof.Gather.lean ====
/-
  Reading the two host operations that move whole entries by computed indices: a batched gather along axis 1 whose start
  indices lie in the operand, and the top entries of every row together with where they came from.
-/
module

public import Idealize.ShloMosaic.Lib.ValueIdxCore
public import Idealize.ShloMosaic.Lib.SortFacts
public import Idealize.ShloMosaic.Lib.Pointwise
public import Idealize.ShloMosaic.Lib.WordCmp

@[expose] public section

set_option maxRecDepth 16384

noncomputable section

namespace Cert.Nms

open Idealize.ShloMosaic

variable {α : Type}

/-- A word holding a natural below 2³¹ reads signed as that natural. -/
theorem toInt_ofNat32 {n : ℕ} (h : n < 2 ^ 31) : (BitVec.ofNat 32 n).toInt = (n : ℤ) := by
  rw [BitVec.toInt_eq_toNat_cond, BitVec.toNat_ofNat, Nat.mod_eq_of_lt (by omega)]
  rw [if_pos (by omega)]

/-- Row by row gather along axis 1 of a rank-2 operand, with the start index inside the operand. -/
theorem gather_row2 {B N P : ℕ} (hN : N < 2 ^ 31)
    (wf : GatherDims.WF ⟨2, ![B, N]⟩ ⟨3, ![B, P, 1]⟩ ⟨2, ![B, P]⟩ [] [1] [0] [1] [0] 2 ![1, 1])
    (x : (⟨2, ![B, N]⟩ : Shape).Idx → α) (I : IVec ⟨3, ![B, P, 1]⟩ 32) (b : Fin B) (p : Fin P) (q : Fin N)
    (hq : I (ix3 b p 0) = BitVec.ofNat 32 q) :
    Host.gather (⟨[], [1], [0], [0], [1], 2, ![1, 1], wf⟩ : GatherDims ⟨2, ![B, N]⟩ ⟨3, ![B, P, 1]⟩ ⟨2, ![B, P]⟩) x I (ix2 b p)
      = x (ix2 b q) := by
  refine congrArg x (funext fun a => Fin.ext ?_)
  match a with
  | ⟨0, _⟩ =>
    show GatherDims.start _ _ I 0 + GatherDims.batchCoord _ _ 0 + GatherDims.offCoord _ _ 0 = _
    rw [GatherDims.start_batching _ _ _ _ (List.mem_singleton.mpr rfl),
      GatherDims.offCoord_eq_zero _ _ _ (fun h => ((GatherDims.mem_sKept _ _).mp h).2 (List.mem_singleton.mpr rfl))]
    rw [Nat.zero_add, Nat.add_zero, GatherDims.batchCoord, dif_pos (List.mem_singleton.mpr rfl)]
    rfl
  | ⟨1, _⟩ =>
    show GatherDims.start _ _ I 1 + GatherDims.batchCoord _ _ 1 + GatherDims.offCoord _ _ 1 = _
    rw [GatherDims.batchCoord_eq_zero _ _ _ (fun h => by simp at h),
      GatherDims.offCoord_eq_zero _ _ _ (fun h => ((GatherDims.mem_sKept _ _).mp h).1 (List.mem_singleton.mpr rfl)),
      Nat.add_zero, GatherDims.start, dif_pos (List.mem_singleton.mpr rfl)]
    have hs : ∀ k, GatherDims.siIdx (⟨[], [1], [0], [0], [1], 2, ![1, 1], wf⟩ : GatherDims ⟨2, ![B, N]⟩ ⟨3, ![B, P, 1]⟩ ⟨2, ![B, P]⟩)
        (ix2 b p) k = ix3 b p 0 := by
      intro k
      funext c; refine Fin.ext ?_
      match c with
      | ⟨0, _⟩ => rfl
      | ⟨1, _⟩ => rfl
      | ⟨2, _⟩ => exact Nat.lt_one_iff.mp k.isLt
    rw [hs, hq, toInt_ofNat32 (lt_trans q.isLt hN)]
    show min q.val (N - 1) = q.val
    have := q.isLt
    omega

/-- Row by row gather along axis 1 of a rank-3 operand, the last axis carried along. -/
theorem gather_row3 {B N P C : ℕ} (hN : N < 2 ^ 31)
    (wf : GatherDims.WF ⟨3, ![B, N, C]⟩ ⟨4, ![B, P, C, 1]⟩ ⟨3, ![B, P, C]⟩ [] [1] [0, 2] [1] [0, 2] 3 ![1, 1, 1])
    (x : (⟨3, ![B, N, C]⟩ : Shape).Idx → α) (I : IVec ⟨4, ![B, P, C, 1]⟩ 32) (b : Fin B) (p : Fin P) (f : Fin C) (q : Fin N)
    (hq : I (ix4 b p f 0) = BitVec.ofNat 32 q) :
    Host.gather (⟨[], [1], [0, 2], [0, 2], [1], 3, ![1, 1, 1], wf⟩ :
      GatherDims ⟨3, ![B, N, C]⟩ ⟨4, ![B, P, C, 1]⟩ ⟨3, ![B, P, C]⟩) x I (ix3 b p f) = x (ix3 b q f) := by
  refine congrArg x (funext fun a => Fin.ext ?_)
  match a with
  | ⟨0, _⟩ =>
    show GatherDims.start _ _ I 0 + GatherDims.batchCoord _ _ 0 + GatherDims.offCoord _ _ 0 = _
    rw [GatherDims.start_batching _ _ _ _ (by simp),
      GatherDims.offCoord_eq_zero _ _ _ (fun h => ((GatherDims.mem_sKept _ _).mp h).2 (by simp))]
    rw [Nat.zero_add, Nat.add_zero, GatherDims.batchCoord, dif_pos (by simp)]
    rfl
  | ⟨1, _⟩ =>
    show GatherDims.start _ _ I 1 + GatherDims.batchCoord _ _ 1 + GatherDims.offCoord _ _ 1 = _
    rw [GatherDims.batchCoord_eq_zero _ _ _ (fun h => by simp at h),
      GatherDims.offCoord_eq_zero _ _ _ (fun h => ((GatherDims.mem_sKept _ _).mp h).1 (List.mem_singleton.mpr rfl)),
      Nat.add_zero, GatherDims.start, dif_pos (List.mem_singleton.mpr rfl)]
    have hs : ∀ k, GatherDims.siIdx (⟨[], [1], [0, 2], [0, 2], [1], 3, ![1, 1, 1], wf⟩ :
        GatherDims ⟨3, ![B, N, C]⟩ ⟨4, ![B, P, C, 1]⟩ ⟨3, ![B, P, C]⟩) (ix3 b p f) k = ix4 b p f 0 := by
      intro k
      funext c; refine Fin.ext ?_
      match c with
      | ⟨0, _⟩ => rfl
      | ⟨1, _⟩ => rfl
      | ⟨2, _⟩ => rfl
      | ⟨3, _⟩ => exact Nat.lt_one_iff.mp k.isLt
    rw [hs, hq, toInt_ofNat32 (lt_trans q.isLt hN)]
    show min q.val (N - 1) = q.val
    have := q.isLt
    omega
  | ⟨2, _⟩ =>
    show GatherDims.start _ _ I 2 + GatherDims.batchCoord _ _ 2 + GatherDims.offCoord _ _ 2 = _
    rw [GatherDims.start_batching _ _ _ _ (by simp),
      GatherDims.offCoord_eq_zero _ _ _ (fun h => ((GatherDims.mem_sKept _ _).mp h).2 (by simp))]
    rw [Nat.zero_add, Nat.add_zero, GatherDims.batchCoord, dif_pos (by simp)]
    rfl

/-- A negative index would be moved up by the row's length; a natural index stays. -/
theorem wrap_ofNat {q : ℕ} (hq : q < 2 ^ 31) (c : BitVec 32) :
    Scalar.select (IntOp.cmpi .slt (BitVec.ofNat 32 q) 0#32) c (BitVec.ofNat 32 q) = BitVec.ofNat 32 q := by
  rw [WordCmp.cmpi_slt_ofNat (by simpa using hq) (by norm_num), WordCmp.select_decide, if_neg (Nat.not_lt_zero _)]

/-- A natural index up to `M` passes the range test. -/
theorem inside_ofNat {q M : ℕ} (hq : q ≤ M) (hM : M < 2 ^ 31) :
    IntOp.andi (IntOp.cmpi .sge (BitVec.ofNat 32 q) 0#32) (IntOp.cmpi .sle (BitVec.ofNat 32 q) (BitVec.ofNat 32 M)) = 1#1 := by
  have h1 : q < 2 ^ (32 - 1) := by norm_num; omega
  have h2 : M < 2 ^ (32 - 1) := by norm_num; omega
  rw [WordCmp.cmpi_sge_ofNat h1 (by norm_num), WordCmp.cmpi_sle_ofNat h1 h2, decide_eq_true (Nat.zero_le q), decide_eq_true hq]
  rfl

/-- A conjunction of ones is one. -/
theorem fold_andi_one {ι : Type} (s : Finset ι) (f : ι → BitVec 1) (h : ∀ k ∈ s, f k = 1#1) : s.fold IntOp.andi 1#1 f = 1#1 := by
  induction s using Finset.cons_induction with
  | empty => rfl
  | cons a s ha ih =>
    rw [Finset.fold_cons, ih (fun k hk => h k (Finset.mem_cons_of_mem hk)), h a (Finset.mem_cons_self a s)]
    rfl

/-- THE TOP ENTRIES: the `p`-th of them is an entry of the operand's row, and the index array names that entry. -/
theorem topK_at {F : FTy → Type} [FloatOps F] {B N P : ℕ} (gt : F .f32 → F .f32 → BitVec 1)
    (h : (⟨2, ![B, N]⟩ : Shape).Slices (fun _ => 0) ⟨2, ![B, P]⟩) (x : FVec F ⟨2, ![B, N]⟩ .f32) :
    ∃ q : Fin B → Fin P → Fin N, ∀ b p,
      (Host.topK ⟨2, ![B, P]⟩ 1 gt x h).1 (ix2 b p) = x (ix2 b (q b p))
      ∧ (Host.topK ⟨2, ![B, P]⟩ 1 gt x h).2 (ix2 b p) = BitVec.ofNat 32 (q b p) := by
  let J : Fin B → Fin P → (⟨2, ![B, N]⟩ : Shape).Idx := fun b p a =>
    ⟨0 + ((ix2 b p : (⟨2, ![B, P]⟩ : Shape).Idx) (a.cast h.1.symm)).val,
      Nat.lt_of_lt_of_le (Nat.add_lt_add_left (Fin.isLt _) _) (h.2 a)⟩
  have hJ : ∀ b p (k : Fin N), (J b p).along 1 k = ix2 b k := by
    intro b p k
    funext a
    match a with
    | ⟨0, _⟩ => exact Fin.ext (Nat.zero_add _)
    | ⟨1, _⟩ => rfl
  let idx : IVec ⟨2, ![B, N]⟩ 32 := fun i => if hd : 1 < 2 then iotaInDim ⟨2, ![B, N]⟩ 32 ⟨1, hd⟩ i else 0#32
  let q : Fin B → Fin P → Fin N := fun b p => sortedFrom (fun k k' =>
    gt (x ((J b p).along 1 k)) (x ((J b p).along 1 k')) == 1#1) (J b p 1)
  refine ⟨q, fun b p => ⟨?_, ?_⟩⟩
  · show x ((J b p).along 1 (q b p)) = _
    rw [hJ]
  · show idx ((J b p).along 1 (q b p)) = _
    rw [hJ]
    rfl

/-- SORTING A ROW OF WORDS: the `p`-th entry of the sorted row is an entry of the row, found by sorting positions. -/
theorem sort_at {B N : ℕ} (lt : BitVec 32 → BitVec 32 → BitVec 1) (x : IVec ⟨2, ![B, N]⟩ 32) (b : Fin B) (p : Fin N) :
    Host.sort ⟨2, ![B, N]⟩ 1 lt x (ix2 b p)
      = x (ix2 b (sortedFrom (fun k k' => lt (x (ix2 b k)) (x (ix2 b k')) == 1#1) p)) := by
  have hJ : ∀ k : Fin N, (ix2 b p : (⟨2, ![B, N]⟩ : Shape).Idx).along 1 k = ix2 b k := by
    intro k
    funext a
    match a with
    | ⟨0, _⟩ => rfl
    | ⟨1, _⟩ => rfl
  have he : (fun k k' : Fin N => lt (x ((ix2 b p : (⟨2, ![B, N]⟩ : Shape).Idx).along 1 k))
      (x ((ix2 b p : (⟨2, ![B, N]⟩ : Shape).Idx).along 1 k')) == 1#1)
      = fun k k' => lt (x (ix2 b k)) (x (ix2 b k')) == 1#1 := by
    funext k k'
    exact congrArg₂ (fun i j => lt (x i) (x j) == 1#1) (hJ k) (hJ k')
  exact (congrArg x (hJ _)).trans (congrArg (fun R => x (ix2 b (sortedFrom R p))) he)

end Cert.Nms

end
-- ==== Proof.HostKernelIdeal.lean ====
/-
  The kernel's host operations at an index: the boxes read along the index array, the columns padded, laid out as grids and as
  lines, and stacked into a table.
-/
module

public import proofs.«01_k».proof.Proof.TermsKernelIdeal
public import proofs.«01_k».proof.Proof.Gather

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.StableHlo
open Idealize.SL.Sem

/-- The boxes, read through the index array. -/
theorem box_at (x : FVec Ideal S8x5000x4 .f32) (I : IVec S8x2500x4 32) (b : Fin 8) (p : Fin 2500) (f : Fin 4) (q : Fin 5000)
    (h : I (ix3 b p f) = BitVec.ofNat 32 q) : boxTerm I x (ix3 b p f) = x (ix3 b q f) := by
  have hq : (q : ℕ) < 2 ^ 31 := by have := q.isLt; norm_num; omega
  pointwise [boxTerm]
  refine (congrArg₂ (Scalar.select · · _) (fold_andi_one _ _ fun k _ => ?_) (gather_row3 (by norm_num) _ x _ b p f q ?_)).trans
    (WordCmp.select_one _ _)
  · rw [h, wrap_ofNat hq]
    exact inside_ofNat (by have := q.isLt; omega) (by norm_num)
  · pointwise
    rw [h, wrap_ofNat hq]

/-- A padded row holds, up to its old length, what it held. -/
theorem pad_at (x : FVec Ideal S8x2500 .f32) (c : IVec S_ 32) (b : Fin 8) (k : Fin 2560) (p : Fin 2500) (h : (k : ℕ) = p) :
    padTerm x c (ix2 b k) = x (ix2 b p) := by
  pointwise [padTerm]
  rw [dif_pos (show (k : ℕ) < 2500 from h ▸ p.isLt)]
  exact congrArg (fun z => x (ix2 b z)) (Fin.ext h)

/-- A coordinate's column. -/
theorem colY1_at (B : FVec Ideal S8x2500x4 .f32) (b : Fin 8) (p : Fin 2500) : colY1Term B (ix2 b p) = B (ix3 b p 0) := by
  pointwise [colY1Term]
theorem colX1_at (B : FVec Ideal S8x2500x4 .f32) (b : Fin 8) (p : Fin 2500) : colX1Term B (ix2 b p) = B (ix3 b p 1) := by
  pointwise [colX1Term]

/-- A row laid out as a grid of lines of 128. -/
theorem grid_at (x : FVec Ideal S8x2560 .f32) (b : Fin 8) (r : Fin 20) (l : Fin 128) (k : Fin 2560) (h : 128 * (r : ℕ) + l = k) :
    gridY1Term x (ix3 b r l) = x (ix2 b k) := by
  pointwise [gridY1Term]
  exact congrArg (fun z => x (ix2 b z)) (Fin.ext (by show (r : ℕ) * 128 + l = k; omega))

/-- A row laid out as one line. -/
theorem line_at (x : FVec Ideal S8x2560 .f32) (b : Fin 8) (z : Fin 1) (k : Fin 2560) :
    lineY1Term x (ix3 b z k) = x (ix2 b k) := by
  pointwise [lineY1Term]

theorem colY2_at (B : FVec Ideal S8x2500x4 .f32) (b : Fin 8) (p : Fin 2500) : colY2Term B (ix2 b p) = B (ix3 b p 2) := by
  pointwise [colY2Term]
theorem colX2_at (B : FVec Ideal S8x2500x4 .f32) (b : Fin 8) (p : Fin 2500) : colX2Term B (ix2 b p) = B (ix3 b p 3) := by
  pointwise [colX2Term]

/-- The positions, spread over the four coordinates. -/
theorem wide_at (x : FVec Ideal S8x5000 .f32) (b : Fin 8) (p : Fin 2500) (f : Fin 4) :
    wideTerm x (ix3 b p f) = (Host.topK S8x2500 1 (FloatOps.cmpfTotal .gt) x sliceFits_S8x5000_S8x2500).2 (ix2 b p) := by
  pointwise [wideTerm]

/-- The table's first row. -/
theorem tab_at0 (v y1 x1 y2 x2 : FVec Ideal S8x2560 .f32) (b : Fin 8) (k : Fin 2560) :
    tabTerm v y1 x1 y2 x2 (ix3 b 0 k) = v (ix2 b k) := by
  pointwise [tabTerm]
/-- The table's other rows. -/
theorem tab_at1 (v y1 x1 y2 x2 : FVec Ideal S8x2560 .f32) (b : Fin 8) (k : Fin 2560) :
    tabTerm v y1 x1 y2 x2 (ix3 b 1 k) = y1 (ix2 b k) := by
  pointwise [tabTerm]
theorem tab_at2 (v y1 x1 y2 x2 : FVec Ideal S8x2560 .f32) (b : Fin 8) (k : Fin 2560) :
    tabTerm v y1 x1 y2 x2 (ix3 b 2 k) = x1 (ix2 b k) := by
  pointwise [tabTerm]
theorem tab_at3 (v y1 x1 y2 x2 : FVec Ideal S8x2560 .f32) (b : Fin 8) (k : Fin 2560) :
    tabTerm v y1 x1 y2 x2 (ix3 b 3 k) = y2 (ix2 b k) := by
  pointwise [tabTerm]
theorem tab_at4 (v y1 x1 y2 x2 : FVec Ideal S8x2560 .f32) (b : Fin 8) (k : Fin 2560) :
    tabTerm v y1 x1 y2 x2 (ix3 b 4 k) = x2 (ix2 b k) := by
  pointwise [tabTerm]

/-- The result rows. -/
theorem res0_at (x : FVec Ideal S8x5x256 .f32) (b : Fin 8) (p : Fin 200) (k : Fin 256) (h : (k : ℕ) = p) :
    res0Term x (ix2 b p) = x (ix3 b 0 k) := by
  pointwise [res0Term]
  exact congrArg (fun z => x (ix3 b 0 z)) (Fin.ext h.symm)
theorem res1_at (x : FVec Ideal S8x5x256 .f32) (b : Fin 8) (p : Fin 200) (k : Fin 256) (h : (k : ℕ) = p) (f : Fin 4) (g : Fin 5) (hg : (g : ℕ) = f + 1) :
    res1Term x (ix3 b p f) = x (ix3 b g k) := by
  pointwise [res1Term]
  exact congrArg₂ (fun g z => x (ix3 b g z)) (Fin.ext (by show 1 + (f : ℕ) = g; omega)) (Fin.ext h.symm)

end Cert.KernelIdeal.Body

end
-- ==== Proof.EntryKernelIdeal.lean ====
/-
  What the kernel's pipeline reads: each array at the launch as a term of the arguments.
-/
module

public import proofs.«01_k».proof.Proof.HostKernelIdeal

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.StableHlo
open Idealize.SL.Sem
open Idealize.ShloMosaic.Pipeline (Dat)

/-- `main_v21` when the launch is reached. -/
theorem pre_v21 (V : Valuation τ sig (Elt Ideal)) :
    afterL (pre (F := Ideal)) V (Proc.devRef .tc main_v21) = (tabTerm (padTerm (valTerm (V (Proc.devRef .tc main_arg0))) c0Term) (padY1Term (colY1Term (boxTerm (wideTerm (V (Proc.devRef .tc main_arg0))) (V (Proc.devRef .tc main_arg1)))) cY1Term) (padX1Term (colX1Term (boxTerm (wideTerm (V (Proc.devRef .tc main_arg0))) (V (Proc.devRef .tc main_arg1)))) cX1Term) (padY2Term (colY2Term (boxTerm (wideTerm (V (Proc.devRef .tc main_arg0))) (V (Proc.devRef .tc main_arg1)))) cY2Term) (padX2Term (colX2Term (boxTerm (wideTerm (V (Proc.devRef .tc main_arg0))) (V (Proc.devRef .tc main_arg1)))) cX2Term)) := by
  simp only [pre, afterL_cons, afterL_nil]
  rw [tabTerm_eq, keep_hostOps0_11 (r := main_v3) _ (by decide), keep_hostOps0_11 (r := main_v6) _ (by decide), keep_hostOps0_11 (r := main_v9) _ (by decide), keep_hostOps0_11 (r := main_v12) _ (by decide), padX2Term_eq, keep_hostOps0_10 (r := main_v3) _ (by decide), keep_hostOps0_10 (r := main_v6) _ (by decide), keep_hostOps0_10 (r := main_v9) _ (by decide), keep_hostOps0_10 (r := main_v12) _ (by decide), colX2Term_eq, cX2Term_eq, keep_hostOps0_9 (r := main_v3) _ (by decide), keep_hostOps0_9 (r := main_v6) _ (by decide), keep_hostOps0_9 (r := main_v9) _ (by decide), padY2Term_eq, keep_hostOps0_9 (r := main_v2) _ (by decide), keep_hostOps0_8 (r := main_v3) _ (by decide), keep_hostOps0_8 (r := main_v6) _ (by decide), keep_hostOps0_8 (r := main_v9) _ (by decide), colY2Term_eq, cY2Term_eq, keep_hostOps0_8 (r := main_v2) _ (by decide), keep_hostOps0_7 (r := main_v3) _ (by decide), keep_hostOps0_7 (r := main_v6) _ (by decide), padX1Term_eq, keep_hostOps0_7 (r := main_v2) _ (by decide), keep_hostOps0_6 (r := main_v3) _ (by decide), keep_hostOps0_6 (r := main_v6) _ (by decide), colX1Term_eq, cX1Term_eq, keep_hostOps0_6 (r := main_v2) _ (by decide), keep_hostOps0_5 (r := main_v3) _ (by decide), padY1Term_eq, keep_hostOps0_5 (r := main_v2) _ (by decide), keep_hostOps0_4 (r := main_v3) _ (by decide), colY1Term_eq, cY1Term_eq, keep_hostOps0_4 (r := main_v2) _ (by decide), padTerm_eq, keep_hostOps0_3 (r := main_v2) _ (by decide), keep_hostOps0_2 (r := main_values) _ (by decide), c0Term_eq, keep_hostOps0_2 (r := main_v2) _ (by decide), keep_hostOps0_1 (r := main_values) _ (by decide), boxTerm_eq, valTerm_eq, wideTerm_eq, keep_hostOps0 (r := main_arg1) _ (by decide)]

/-- `main_v22` when the launch is reached. -/
theorem pre_v22 (V : Valuation τ sig (Elt Ideal)) :
    afterL (pre (F := Ideal)) V (Proc.devRef .tc main_v22) = (gridY1Term (padY1Term (colY1Term (boxTerm (wideTerm (V (Proc.devRef .tc main_arg0))) (V (Proc.devRef .tc main_arg1)))) cY1Term)) := by
  simp only [pre, afterL_cons, afterL_nil]
  rw [gridY1Term_eq, keep_hostOps0_11 (r := main_v6) _ (by decide), keep_hostOps0_10 (r := main_v6) _ (by decide), keep_hostOps0_9 (r := main_v6) _ (by decide), keep_hostOps0_8 (r := main_v6) _ (by decide), keep_hostOps0_7 (r := main_v6) _ (by decide), keep_hostOps0_6 (r := main_v6) _ (by decide), padY1Term_eq, colY1Term_eq, cY1Term_eq, keep_hostOps0_3 (r := main_v2) _ (by decide), keep_hostOps0_2 (r := main_v2) _ (by decide), boxTerm_eq, wideTerm_eq, keep_hostOps0 (r := main_arg1) _ (by decide)]

/-- `main_v23` when the launch is reached. -/
theorem pre_v23 (V : Valuation τ sig (Elt Ideal)) :
    afterL (pre (F := Ideal)) V (Proc.devRef .tc main_v23) = (gridX1Term (padX1Term (colX1Term (boxTerm (wideTerm (V (Proc.devRef .tc main_arg0))) (V (Proc.devRef .tc main_arg1)))) cX1Term)) := by
  simp only [pre, afterL_cons, afterL_nil]
  rw [gridX1Term_eq, keep_hostOps0_11 (r := main_v9) _ (by decide), keep_hostOps0_10 (r := main_v9) _ (by decide), keep_hostOps0_9 (r := main_v9) _ (by decide), keep_hostOps0_8 (r := main_v9) _ (by decide), padX1Term_eq, colX1Term_eq, cX1Term_eq, keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

/-- `main_v24` when the launch is reached. -/
theorem pre_v24 (V : Valuation τ sig (Elt Ideal)) :
    afterL (pre (F := Ideal)) V (Proc.devRef .tc main_v24) = (gridY2Term (padY2Term (colY2Term (boxTerm (wideTerm (V (Proc.devRef .tc main_arg0))) (V (Proc.devRef .tc main_arg1)))) cY2Term)) := by
  simp only [pre, afterL_cons, afterL_nil]
  rw [gridY2Term_eq, keep_hostOps0_11 (r := main_v12) _ (by decide), keep_hostOps0_10 (r := main_v12) _ (by decide), padY2Term_eq, colY2Term_eq, cY2Term_eq, keep_hostOps0_7 (r := main_v2) _ (by decide), keep_hostOps0_6 (r := main_v2) _ (by decide), keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

/-- `main_v25` when the launch is reached. -/
theorem pre_v25 (V : Valuation τ sig (Elt Ideal)) :
    afterL (pre (F := Ideal)) V (Proc.devRef .tc main_v25) = (gridX2Term (padX2Term (colX2Term (boxTerm (wideTerm (V (Proc.devRef .tc main_arg0))) (V (Proc.devRef .tc main_arg1)))) cX2Term)) := by
  simp only [pre, afterL_cons, afterL_nil]
  rw [gridX2Term_eq, padX2Term_eq, colX2Term_eq, cX2Term_eq, keep_hostOps0_9 (r := main_v2) _ (by decide), keep_hostOps0_8 (r := main_v2) _ (by decide), keep_hostOps0_7 (r := main_v2) _ (by decide), keep_hostOps0_6 (r := main_v2) _ (by decide), keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

/-- `main_v26` when the launch is reached. -/
theorem pre_v26 (V : Valuation τ sig (Elt Ideal)) :
    afterL (pre (F := Ideal)) V (Proc.devRef .tc main_v26) = (lineY1Term (padY1Term (colY1Term (boxTerm (wideTerm (V (Proc.devRef .tc main_arg0))) (V (Proc.devRef .tc main_arg1)))) cY1Term)) := by
  simp only [pre, afterL_cons, afterL_nil]
  rw [lineY1Term_eq, keep_hostOps0_11 (r := main_v6) _ (by decide), keep_hostOps0_10 (r := main_v6) _ (by decide), keep_hostOps0_9 (r := main_v6) _ (by decide), keep_hostOps0_8 (r := main_v6) _ (by decide), keep_hostOps0_7 (r := main_v6) _ (by decide), keep_hostOps0_6 (r := main_v6) _ (by decide), padY1Term_eq, colY1Term_eq, cY1Term_eq, keep_hostOps0_3 (r := main_v2) _ (by decide), keep_hostOps0_2 (r := main_v2) _ (by decide), boxTerm_eq, wideTerm_eq, keep_hostOps0 (r := main_arg1) _ (by decide)]

/-- `main_v27` when the launch is reached. -/
theorem pre_v27 (V : Valuation τ sig (Elt Ideal)) :
    afterL (pre (F := Ideal)) V (Proc.devRef .tc main_v27) = (lineX1Term (padX1Term (colX1Term (boxTerm (wideTerm (V (Proc.devRef .tc main_arg0))) (V (Proc.devRef .tc main_arg1)))) cX1Term)) := by
  simp only [pre, afterL_cons, afterL_nil]
  rw [lineX1Term_eq, keep_hostOps0_11 (r := main_v9) _ (by decide), keep_hostOps0_10 (r := main_v9) _ (by decide), keep_hostOps0_9 (r := main_v9) _ (by decide), keep_hostOps0_8 (r := main_v9) _ (by decide), padX1Term_eq, colX1Term_eq, cX1Term_eq, keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

/-- `main_v28` when the launch is reached. -/
theorem pre_v28 (V : Valuation τ sig (Elt Ideal)) :
    afterL (pre (F := Ideal)) V (Proc.devRef .tc main_v28) = (lineY2Term (padY2Term (colY2Term (boxTerm (wideTerm (V (Proc.devRef .tc main_arg0))) (V (Proc.devRef .tc main_arg1)))) cY2Term)) := by
  simp only [pre, afterL_cons, afterL_nil]
  rw [lineY2Term_eq, keep_hostOps0_11 (r := main_v12) _ (by decide), keep_hostOps0_10 (r := main_v12) _ (by decide), padY2Term_eq, colY2Term_eq, cY2Term_eq, keep_hostOps0_7 (r := main_v2) _ (by decide), keep_hostOps0_6 (r := main_v2) _ (by decide), keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

/-- `main_v29` when the launch is reached. -/
theorem pre_v29 (V : Valuation τ sig (Elt Ideal)) :
    afterL (pre (F := Ideal)) V (Proc.devRef .tc main_v29) = (lineX2Term (padX2Term (colX2Term (boxTerm (wideTerm (V (Proc.devRef .tc main_arg0))) (V (Proc.devRef .tc main_arg1)))) cX2Term)) := by
  simp only [pre, afterL_cons, afterL_nil]
  rw [lineX2Term_eq, padX2Term_eq, colX2Term_eq, cX2Term_eq, keep_hostOps0_9 (r := main_v2) _ (by decide), keep_hostOps0_8 (r := main_v2) _ (by decide), keep_hostOps0_7 (r := main_v2) _ (by decide), keep_hostOps0_6 (r := main_v2) _ (by decide), keep_hostOps0_5 (r := main_v2) _ (by decide), keep_hostOps0_4 (r := main_v2) _ (by decide), keep_hostOps0_3 (r := main_v2) _ (by decide), keep_hostOps0_2 (r := main_v2) _ (by decide), boxTerm_eq, wideTerm_eq, keep_hostOps0 (r := main_arg1) _ (by decide)]

end Cert.KernelIdeal.Body

end
-- ==== Proof.BlocksKernelIdeal.lean ====
/-
  The blocks of a grid point, at an index: grid point `t` takes batch row `t` of every array.
-/
module

public import proofs.«01_k».proof.Proof.RunKernelIdeal
public import Idealize.ShloMosaic.Lib.Pipeline.ValueKit

@[expose] public section

set_option maxRecDepth 16384

noncomputable section

namespace Cert.KernelIdeal.Body

open Cert.KernelIdeal Cert.KernelIdeal.Gen
open Idealize.ShloMosaic Idealize.ShloMosaic.TcCoe
open Idealize.SL.Sem
open Idealize.ShloMosaic.Pipeline (Dat)

/-- The windows' block indices. -/
theorem idx : ∀ t : Fin (cfg0 (F := Ideal)).N, win0_0.index t = ![t.val, 0, 0] ∧ win0_1.index t = ![t.val, 0, 0] ∧ win0_2.index t = ![t.val, 0, 0]
    ∧ win0_3.index t = ![t.val, 0, 0] ∧ win0_4.index t = ![t.val, 0, 0] ∧ win0_5.index t = ![t.val, 0, 0] ∧ win0_6.index t = ![t.val, 0, 0]
    ∧ win0_7.index t = ![t.val, 0, 0] ∧ win0_8.index t = ![t.val, 0, 0] ∧ win0_9.index t = ![t.val, 0, 0] :=
  (by decide +kernel : ∀ t : Fin grid0.N, _)

/-- The batch row of a grid point. -/
abbrev rowOf (t : Fin (cfg0 (F := Ideal)).N) : Fin 8 := ⟨t.val, t.isLt⟩

/-- Window 0's block, of any contents of its array, at an index. -/
theorem read0 (A : FVec Ideal S8x20x128 .f32) (t : Fin (cfg0 (F := Ideal)).N) (r : Fin 20) (l : Fin 128) :
    ((((cfg0 (F := Ideal)).win 0).blk t).view.read (Elt Ideal) A) (ix3 0 r l) = A (ix3 (rowOf t) r l) := by
  blk_ext [idx t]

/-- Window 1's block, of any contents of its array, at an index. -/
theorem read1 (A : FVec Ideal S8x20x128 .f32) (t : Fin (cfg0 (F := Ideal)).N) (r : Fin 20) (l : Fin 128) :
    ((((cfg0 (F := Ideal)).win 1).blk t).view.read (Elt Ideal) A) (ix3 0 r l) = A (ix3 (rowOf t) r l) := by
  blk_ext [idx t]

/-- Window 2's block, of any contents of its array, at an index. -/
theorem read2 (A : FVec Ideal S8x20x128 .f32) (t : Fin (cfg0 (F := Ideal)).N) (r : Fin 20) (l : Fin 128) :
    ((((cfg0 (F := Ideal)).win 2).blk t).view.read (Elt Ideal) A) (ix3 0 r l) = A (ix3 (rowOf t) r l) := by
  blk_ext [idx t]

/-- Window 3's block, of any contents of its array, at an index. -/
theorem read3 (A : FVec Ideal S8x20x128 .f32) (t : Fin (cfg0 (F := Ideal)).N) (r : Fin 20) (l : Fin 128) :
    ((((cfg0 (F := Ideal)).win 3).blk t).view.read (Elt Ideal) A) (ix3 0 r l) = A (ix3 (rowOf t) r l) := by
  blk_ext [idx t]

/-- Window 4's block, of any contents of its array, at an index. -/
theorem read4 (A : FVec Ideal S8x5x2560 .f32) (t : Fin (cfg0 (F := Ideal)).N) (f : Fin 5) (k : Fin 2560) :
    ((((cfg0 (F := Ideal)).win 4).blk t).view.read (Elt Ideal) A) (ix3 0 f k) = A (ix3 (rowOf t) f k) := by
  blk_ext [idx t]

/-- Window 5's block, of any contents of its array, at an index. -/
theorem read5 (A : FVec Ideal S8x1x2560 .f32) (t : Fin (cfg0 (F := Ideal)).N) (k : Fin 2560) :
    ((((cfg0 (F := Ideal)).win 5).blk t).view.read (Elt Ideal) A) (ix3 0 0 k) = A (ix3 (rowOf t) 0 k) := by
  blk_ext [idx t]

/-- Window 6's block, of any contents of its array, at an index. -/
theorem read6 (A : FVec Ideal S8x1x2560 .f32) (t : Fin (cfg0 (F := Ideal)).N) (k : Fin 2560) :
    ((((cfg0 (F := Ideal)).win 6).blk t).view.read (Elt Ideal) A) (ix3 0 0 k) = A (ix3 (rowOf t) 0 k) := by
  blk_ext [idx t]

/-- Window 7's block, of any contents of its array, at an index. -/
theorem read7 (A : FVec Ideal S8x1x2560 .f32) (t : Fin (cfg0 (F := Ideal)).N) (k : Fin 2560) :
    ((((cfg0 (F := Ideal)).win 7).blk t).view.read (Elt Ideal) A) (ix3 0 0 k) = A (ix3 (rowOf t) 0 k) := by
  blk_ext [idx t]

/-- Window 8's block, of any contents of its array, at an index. -/
theorem read8 (A : FVec Ideal S8x1x2560 .f32) (t : Fin (cfg0 (F := Ideal)).N) (k : Fin 2560) :
    ((((cfg0 (F := Ideal)).win 8).blk t).view.read (Elt Ideal) A) (ix3 0 0 k) = A (ix3 (rowOf t) 0 k) := by
  blk_ext [idx t]

variable (m : (ℓ : Loc nD τ sig) → Buf (Elt Ideal) ℓ) (c : Dev nD)

/-- Window 0's block at the launch, at an index. -/
theorem blk_y1 (t : Fin (cfg0 (F := Ideal)).N) (r : Fin 20) (l : Fin 128) :
    (blkAt m c t).y1 (ix3 0 r l) = (V m c main_v22 : FVec Ideal S8x20x128 .f32) (ix3 (rowOf t) r l) :=
  read0 (V m c main_v22) t r l

/-- Window 1's block at the launch, at an index. -/
theorem blk_x1 (t : Fin (cfg0 (F := Ideal)).N) (r : Fin 20) (l : Fin 128) :
    (blkAt m c t).x1 (ix3 0 r l) = (V m c main_v23 : FVec Ideal S8x20x128 .f32) (ix3 (rowOf t) r l) :=
  read1 (V m c main_v23) t r l

/-- Window 2's block at the launch, at an index. -/
theorem blk_y2 (t : Fin (cfg0 (F := Ideal)).N) (r : Fin 20) (l : Fin 128) :
    (blkAt m c t).y2 (ix3 0 r l) = (V m c main_v24 : FVec Ideal S8x20x128 .f32) (ix3 (rowOf t) r l) :=
  read2 (V m c main_v24) t r l

/-- Window 3's block at the launch, at an index. -/
theorem blk_x2 (t : Fin (cfg0 (F := Ideal)).N) (r : Fin 20) (l : Fin 128) :
    (blkAt m c t).x2 (ix3 0 r l) = (V m c main_v25 : FVec Ideal S8x20x128 .f32) (ix3 (rowOf t) r l) :=
  read3 (V m c main_v25) t r l

/-- Window 4's block at the launch, at an index. -/
theorem blk_tab (t : Fin (cfg0 (F := Ideal)).N) (f : Fin 5) (k : Fin 2560) :
    (blkAt m c t).tab (ix3 0 f k) = (V m c main_v21 : FVec Ideal S8x5x2560 .f32) (ix3 (rowOf t) f k) :=
  read4 (V m c main_v21) t f k

/-- Window 5's block at the launch, at an index. -/
theorem blk_sy1 (t : Fin (cfg0 (F := Ideal)).N) (k : Fin 2560) :
    (blkAt m c t).sy1 (ix3 0 0 k) = (V m c main_v26 : FVec Ideal S8x1x2560 .f32) (ix3 (rowOf t) 0 k) :=
  read5 (V m c main_v26) t k

/-- Window 6's block at the launch, at an index. -/
theorem blk_sx1 (t : Fin (cfg0 (F := Ideal)).N) (k : Fin 2560) :
    (blkAt m c t).sx1 (ix3 0 0 k) = (V m c main_v27 : FVec Ideal S8x1x2560 .f32) (ix3 (rowOf t) 0 k) :=
  read6 (V m c main_v27) t k

/-- Window 7's block at the launch, at an index. -/
theorem blk_sy2 (t : Fin (cfg0 (F := Ideal)).N) (k : Fin 2560) :
    (blkAt m c t).sy2 (ix3 0 0 k) = (V m c main_v28 : FVec Ideal S8x1x2560 .f32) (ix3 (rowOf t) 0 k) :=
  read7 (V m c main_v28) t k

/-- Window 8's block at the launch, at an index. -/
theorem blk_sx2 (t : Fin (cfg0 (F := Ideal)).N) (k : Fin 2560) :
    (blkAt m c t).sx2 (ix3 0 0 k) = (V m c main_v29 : FVec Ideal S8x1x2560 .f32) (ix3 (rowOf t) 0 k) :=
  read8 (V m c main_v29) t k

/-- THE OUTPUT ARRAY after the run: an array that agrees, block by block, with what the body leaves. -/
theorem array_at (G : FVec Ideal S8x5x256 .f32)
    (h : ∀ (t : Fin (cfg0 (F := Ideal)).N) (c0 : Fin 1) (f : Fin 5) (l : Fin 256), outBlk (blkAt m c t) (ix3 c0 f l) = G (ix3 (rowOf t) f l)) :
    (dats m 0 c).arrAt 9 (cfg0 (F := Ideal)).N = G := by
  refine (dats m 0 c).arrAt_eq_of_covers 9 G (by decide +kernel) fun t _ y => ?_
  blk_simp
  rw [after0_9]
  refine Eq.trans ?_ ((h t (y 0) (y 1) (y 2)).trans ?_)
  · blk_ext
  · blk_ext [idx t]

end Cert.KernelIdeal.Body

end
-- ==== Proof.Select.lean ====
/-
  Greedy suppression on natural indices: which boxes survive, how many of the first ones do, and where the survivors stand
  when they are sorted to the front.
-/
module

public import Idealize.ShloMosaic.Lib.SortFacts
public import Mathlib.Data.Nat.Count

@[expose] public section

noncomputable section

namespace Cert.Nms

open Idealize.ShloMosaic

attribute [local instance] Classical.propDecidable

/-- Box `j` is still alive after the first `k` boxes had their turn: a box that is alive at its turn removes the later ones that
    it covers (`S`). -/
def alive (S : ℕ → ℕ → Prop) : ℕ → ℕ → Prop
  | 0, _ => True
  | k + 1, j => alive S k j ∧ ¬ (alive S k k ∧ S k j ∧ k < j)

/-- Box `j` survives. -/
def kept (S : ℕ → ℕ → Prop) (j : ℕ) : Prop := alive S j j

/-- The number of survivors before box `i`. -/
def cnt (S : ℕ → ℕ → Prop) (i : ℕ) : ℕ := Nat.count (kept S) i

/-- After its own turn a box stays as it is. -/
theorem alive_of_le (S : ℕ → ℕ → Prop) {j k : ℕ} (h : j ≤ k) : alive S k j ↔ kept S j := by
  induction k, h using Nat.le_induction with
  | base => exact Iff.rfl
  | succ k hk ih =>
    refine (and_iff_left fun hx => ?_).trans ih
    omega

theorem cnt_zero (S : ℕ → ℕ → Prop) : cnt S 0 = 0 := Nat.count_zero _

theorem cnt_succ (S : ℕ → ℕ → Prop) (i : ℕ) : cnt S (i + 1) = cnt S i + if kept S i then 1 else 0 := Nat.count_succ _ _

theorem cnt_le (S : ℕ → ℕ → Prop) (i : ℕ) : cnt S i ≤ i := Nat.count_le _

theorem cnt_mono (S : ℕ → ℕ → Prop) {i j : ℕ} (h : i ≤ j) : cnt S i ≤ cnt S j := Nat.count_monotone _ h

/-- The index at which `P` holds with `p` such indices before it (0 when there is none). -/
def which (P : ℕ → Prop) (p : ℕ) : ℕ := if h : ∃ k, P k ∧ Nat.count P k = p then h.choose else 0

theorem which_count {P : ℕ → Prop} {k : ℕ} (h : P k) : which P (Nat.count P k) = k := by
  have hex : ∃ l, P l ∧ Nat.count P l = Nat.count P k := ⟨k, h, rfl⟩
  unfold which
  rw [dif_pos hex]
  exact Nat.count_injective hex.choose_spec.1 h hex.choose_spec.2

/-- The survivor that has `p` survivors before it. -/
def pick (S : ℕ → ℕ → Prop) (p : ℕ) : ℕ := which (kept S) p

theorem pick_cnt (S : ℕ → ℕ → Prop) {i : ℕ} (h : kept S i) : pick S (cnt S i) = i := which_count h

/-- A survivor with `p` survivors before it exists as soon as there are more than `p`. -/
theorem exists_of_lt_count (P : ℕ → Prop) {p : ℕ} : ∀ {n : ℕ}, p < Nat.count P n → ∃ k < n, P k ∧ Nat.count P k = p
  | 0, h => absurd h (by rw [Nat.count_zero]; exact Nat.not_lt_zero p)
  | n + 1, h => by
    by_cases hp : p < Nat.count P n
    · obtain ⟨k, hk, h1, h2⟩ := exists_of_lt_count P hp
      exact ⟨k, Nat.lt_succ_of_lt hk, h1, h2⟩
    · rw [Nat.count_succ] at h
      by_cases hn : P n
      · rw [if_pos hn] at h; exact ⟨n, Nat.lt_succ_self n, hn, by omega⟩
      · rw [if_neg hn] at h; omega

theorem pick_lt (S : ℕ → ℕ → Prop) {p n : ℕ} (h : p < cnt S n) : pick S p < n := by
  obtain ⟨k, hk, h1, h2⟩ := exists_of_lt_count (kept S) h
  unfold pick
  rw [← h2, which_count h1]
  exact hk

theorem cnt_pick (S : ℕ → ℕ → Prop) {p n : ℕ} (h : p < cnt S n) : cnt S (pick S p) = p := by
  obtain ⟨k, _, h1, h2⟩ := exists_of_lt_count (kept S) h
  unfold pick cnt
  rw [← h2, which_count h1]

/-- Later survivors have larger indices. -/
theorem pick_mono (S : ℕ → ℕ → Prop) {p q n : ℕ} (hpq : p ≤ q) (h : q < cnt S n) : pick S p ≤ pick S q := by
  by_contra hlt
  have h1 := cnt_mono S (Nat.le_of_lt (not_le.mp hlt))
  rw [cnt_pick S h, cnt_pick S (lt_of_le_of_lt hpq h)] at h1
  have : p = q := le_antisymm hpq h1
  subst this
  exact hlt le_rfl

/-- How many of the keys "own index for a survivor, `n` for the others" lie below `v`. -/
theorem card_keys_lt (P : ℕ → Prop) {n v : ℕ} (hv : v ≤ n) :
    (Finset.univ.filter fun j : Fin n => (if P j then (j : ℕ) else n) < v).card = Nat.count P v := by
  rw [Nat.count_eq_card_filter_range]
  refine Finset.card_bij (fun j _ => (j : ℕ)) ?_ (fun a _ b _ h => Fin.ext h) ?_
  · intro j hj
    have hj := (Finset.mem_filter.mp hj).2
    by_cases hP : P j
    · rw [if_pos hP] at hj
      exact Finset.mem_filter.mpr ⟨Finset.mem_range.mpr hj, hP⟩
    · rw [if_neg hP] at hj; omega
  · intro k hk
    obtain ⟨h1, h2⟩ := Finset.mem_filter.mp hk
    have h1 := Finset.mem_range.mp h1
    exact ⟨⟨k, by omega⟩, Finset.mem_filter.mpr ⟨Finset.mem_univ _, by simpa only [if_pos h2] using h1⟩, rfl⟩

/-- SORTED TO THE FRONT: after sorting the keys "own index for a survivor, `n` for the others", position `p` holds the
    survivor that has `p` survivors before it. -/
theorem sorted_key (P : ℕ → Prop) {n : ℕ} (before : Fin n → Fin n → Bool)
    (hb : ∀ k k', before k k' = decide ((if P k then (k : ℕ) else n) < if P k' then (k' : ℕ) else n))
    (p : Fin n) (hp : (p : ℕ) < Nat.count P n) :
    (if P (sortedFrom before p) then (sortedFrom before p : ℕ) else n) = which P p := by
  obtain ⟨k, hkn, hPk, hk⟩ := exists_of_lt_count P hp
  rw [← hk, which_count hPk]
  have hmono : ∀ i j : Fin n, i ≤ j → (if P (sortedFrom before i) then (sortedFrom before i : ℕ) else n)
      ≤ if P (sortedFrom before j) then (sortedFrom before j : ℕ) else n := by
    intro i j hij
    rcases hij.lt_or_eq with hlt | rfl
    · have h := sortedFrom_noInversion before before (fun a b h => by rw [hb] at h ⊢; simp only [decide_eq_true_eq, decide_eq_false_iff_not] at h ⊢; omega)
        (fun _ _ h => h) (fun a b c h1 h2 => by rw [hb] at h1 h2 ⊢; simp only [decide_eq_false_iff_not] at h1 h2 ⊢; omega) i j hlt
      rw [hb] at h
      simpa only [decide_eq_false_iff_not, not_lt] using h
    · exact le_rfl
  have hcard : ∀ v ≤ n, (Finset.univ.filter fun q : Fin n =>
      (if P (sortedFrom before q) then (sortedFrom before q : ℕ) else n) < v).card = Nat.count P v := by
    intro v hv
    rw [← card_keys_lt P hv]
    refine Finset.card_bij (fun q _ => sortedFrom before q) ?_ (fun a _ b _ h => sortedFrom_injective before h) ?_
    · intro q hq
      exact Finset.mem_filter.mpr ⟨Finset.mem_univ _, (Finset.mem_filter.mp hq).2⟩
    · intro j hj
      obtain ⟨q, rfl⟩ := sortedFrom_surjective before j
      exact ⟨q, Finset.mem_filter.mpr ⟨Finset.mem_univ _, (Finset.mem_filter.mp hj).2⟩, rfl⟩
  refine le_antisymm (not_lt.mp fun hgt => ?_) (not_lt.mp fun hlt => ?_)
  · have h1 := hcard (k + 1) hkn
    rw [Nat.count_succ, if_pos hPk, hk] at h1
    have h2 : (Finset.univ.filter fun q : Fin n =>
        (if P (sortedFrom before q) then (sortedFrom before q : ℕ) else n) < k + 1) ⊆ Finset.Iio p := by
      intro q hq
      have hq := (Finset.mem_filter.mp hq).2
      rw [Finset.mem_Iio]
      by_contra hpq
      have := hmono p q (not_lt.mp hpq)
      omega
    have h3 := Finset.card_le_card h2
    rw [h1, Fin.card_Iio] at h3
    omega
  · have h1 := hcard k hkn.le
    rw [hk] at h1
    have h2 : Finset.Iic p ⊆ (Finset.univ.filter fun q : Fin n =>
        (if P (sortedFrom before q) then (sortedFrom before q : ℕ) else n) < k) := by
      intro q hq
      have := hmono q p (Finset.mem_Iic.mp hq)
      exact Finset.mem_filter.mpr ⟨Finset.mem_univ _, by omega⟩
    have h3 := Finset.card_le_card h2
    rw [h1, Fin.card_Iic] at h3
    omega

end Cert.Nms

end
-- ==== Proof.Spec.lean ====
/-
  What both programs compute, in one place: overlap of two boxes, the words the two programs keep for "alive", their folds,
  and the final index of every output position.
-/
module

public import proofs.«01_k».proof.Proof.Select
public import proofs.«01_k».proof.Proof.Gather
public import Idealize.ShloMosaic.Lib.WordCmp
public import Idealize.ShloMosaic.Lib.IndicatorCount

@[expose] public section

set_option maxRecDepth 16384

noncomputable section

namespace Cert.Nms

open Idealize.ShloMosaic

/-- Intersection over union of two boxes, 0 when the union is not positive. -/
def overlap (u v : Fin 4 → EReal) : EReal :=
  if 0 < (u 2 - u 0) * (u 3 - u 1) + (v 2 - v 0) * (v 3 - v 1)
      - max (min (u 2) (v 2) - max (u 0) (v 0)) 0 * max (min (u 3) (v 3) - max (u 1) (v 1)) 0 then
    Ideal.div (max (min (u 2) (v 2) - max (u 0) (v 0)) 0 * max (min (u 3) (v 3) - max (u 1) (v 1)) 0)
      ((u 2 - u 0) * (u 3 - u 1) + (v 2 - v 0) * (v 3 - v 1)
        - max (min (u 2) (v 2) - max (u 0) (v 0)) 0 * max (min (u 3) (v 3) - max (u 1) (v 1)) 0)
  else 0

attribute [local instance] Classical.propDecidable

/-! ### Bits -/

/-- The one-bit word of a proposition. -/
def bit (P : Prop) : BitVec 1 := if P then 1#1 else 0#1

theorem bit_true {P : Prop} (h : P) : bit P = 1#1 := if_pos h
theorem bit_false {P : Prop} (h : ¬ P) : bit P = 0#1 := if_neg h

theorem bit_eq_one {P : Prop} : bit P = 1#1 ↔ P := by
  by_cases h : P
  · exact ⟨fun _ => h, fun _ => bit_true h⟩
  · exact ⟨fun e => absurd ((bit_false h).symm.trans e) (by decide), fun e => absurd e h⟩

/-- A decided proposition's bit, whatever decides it. -/
theorem ofBool_decide (P : Prop) (inst : Decidable P) : BitVec.ofBool (@decide P inst) = bit P := by
  by_cases h : P
  · rw [bit_true h, decide_eq_true h]; rfl
  · rw [bit_false h, decide_eq_false h]; rfl

theorem bit_congr {P Q : Prop} (h : P ↔ Q) : bit P = bit Q := congrArg bit (propext h)

theorem select_bit {α : Type} (P : Prop) (a b : α) : Scalar.select (bit P) a b = if P then a else b := by
  by_cases h : P
  · rw [bit_true h, if_pos h]; rfl
  · rw [bit_false h, if_neg h]; rfl

theorem andi_bit (P Q : Prop) : IntOp.andi (bit P) (bit Q) = bit (P ∧ Q) := by
  by_cases hP : P <;> by_cases hQ : Q <;> simp [bit, hP, hQ, IntOp.andi]

theorem noti_bit (P : Prop) : ~~~(bit P) = bit (¬ P) := by
  by_cases hP : P <;> simp [bit, hP]

/-! ### Folds of words -/

theorem fold_addi_zero {ι : Type} (s : Finset ι) (f : ι → BitVec 32) (h : ∀ k ∈ s, f k = 0#32) :
    s.fold IntOp.addi 0#32 f = 0#32 := by
  induction s using Finset.cons_induction with
  | empty => rfl
  | cons a s ha ih =>
    rw [Finset.fold_cons, ih (fun k hk => h k (Finset.mem_cons_of_mem hk)), h a (Finset.mem_cons_self a s)]
    rfl

/-- A sum of words of which at most one is not zero. -/
theorem fold_addi_single {ι : Type} [Fintype ι] (f : ι → BitVec 32) (i : ι) (h : ∀ k, k ≠ i → f k = 0#32) :
    Finset.univ.fold IntOp.addi 0#32 f = f i := by
  rw [← Finset.insert_erase (Finset.mem_univ i), Finset.fold_insert (Finset.notMem_erase i _),
    fold_addi_zero _ f (fun k hk => h k (Finset.ne_of_mem_erase hk))]
  exact BitVec.add_zero _

theorem toInt_maxsi (x y : BitVec 32) : (IntOp.maxsi x y).toInt = max x.toInt y.toInt := by
  unfold IntOp.maxsi
  rw [BitVec.slt_eq_decide]
  by_cases h : y.toInt < x.toInt
  · simp only [h, decide_true, if_true]; omega
  · simp only [h, decide_false]; split <;> simp_all <;> omega

theorem toInt_minsi (x y : BitVec 32) : (IntOp.minsi x y).toInt = min x.toInt y.toInt := by
  unfold IntOp.minsi
  rw [BitVec.slt_eq_decide]
  by_cases h : x.toInt < y.toInt
  · simp only [h, decide_true, if_true]; omega
  · simp only [h, decide_false]; split <;> simp_all <;> omega

/-- A signed maximum over words, one of which is the greatest. -/
theorem fold_maxsi_of_greatest {ι : Type} [Fintype ι] (f : ι → BitVec 32) (i : ι) (h : ∀ k, (f k).toInt ≤ (f i).toInt) :
    Finset.univ.fold IntOp.maxsi 2147483648#32 f = f i := by
  refine BitVec.eq_of_toInt_eq ?_
  rw [← Finset.fold_hom (op' := max) (m := BitVec.toInt) toInt_maxsi]
  refine le_antisymm (Finset.fold_max_le _ |>.mpr ⟨?_, fun k _ => h k⟩) (Finset.le_fold_max _ |>.mpr (Or.inr ⟨i, Finset.mem_univ i, le_rfl⟩))
  have := BitVec.le_toInt (f i)
  have h0 : (2147483648#32 : BitVec 32).toInt = -2147483648 := by decide
  omega

/-! ### Overlap -/

/-- A row of boxes read at any natural. -/
def boxAt (X : Fin 2500 → Fin 4 → EReal) (n : ℕ) : Fin 4 → EReal := if h : n < 2500 then X ⟨n, h⟩ else 0

theorem boxAt_fin (X : Fin 2500 → Fin 4 → EReal) (n : Fin 2500) : boxAt X n = X n := by
  unfold boxAt
  exact dif_pos n.isLt

/-- Box `i` covers box `j`: they overlap by more than a half. -/
def covers (X : Fin 2500 → Fin 4 → EReal) (i j : ℕ) : Prop :=
  Ideal.ofBits FTy.f32 1056964608#32 < overlap (boxAt X i) (boxAt X j)

/-! ### The final index -/

/-- The number of selected boxes. -/
def total (S : ℕ → ℕ → Prop) : ℕ := min (cnt S 2500) 200

theorem cnt_pos (S : ℕ → ℕ → Prop) {n : ℕ} (hn : 0 < n) : 0 < cnt S n := by
  have h1 : cnt S 1 = 1 := by rw [cnt_succ, cnt_zero, if_pos (show kept S 0 from trivial)]
  have := cnt_mono S (show 1 ≤ n from hn)
  omega

theorem total_pos (S : ℕ → ℕ → Prop) : 0 < total S := by
  have := cnt_pos S (show 0 < 2500 by omega)
  unfold total
  omega

theorem total_le (S : ℕ → ℕ → Prop) : total S ≤ 200 := Nat.min_le_right _ _

theorem total_le_cnt (S : ℕ → ℕ → Prop) : total S ≤ cnt S 2500 := Nat.min_le_left _ _

/-- The word of an output position's index: the survivor standing there, or past the survivors the positions after the last
    one, pulled back into the row and clipped. -/
def slotWord (n last s p : BitVec 32) : BitVec 32 :=
  IntOp.minsi 2499#32 (IntOp.maxsi 0#32 (Scalar.select (IntOp.cmpi .slt p n) s
    (IntOp.addi (IntOp.minsi (IntOp.subi 2500#32 (IntOp.subi 200#32 n)) (IntOp.addi last 1#32)) (IntOp.subi p n))))

/-- The word of output position `p` from the survivors. -/
def slotOf (S : ℕ → ℕ → Prop) (p : ℕ) : BitVec 32 :=
  slotWord (BitVec.ofNat 32 (total S)) (BitVec.ofNat 32 (pick S (total S - 1))) (BitVec.ofNat 32 (pick S p)) (BitVec.ofNat 32 p)

theorem slotWord_lt (n last s p : BitVec 32) : (slotWord n last s p).toNat < 2500 := by
  unfold slotWord
  generalize Scalar.select _ _ _ = w
  have h1 : (IntOp.minsi 2499#32 (IntOp.maxsi 0#32 w)).toInt = min 2499 (max 0 w.toInt) := by
    rw [toInt_minsi, toInt_maxsi]; rfl
  have h2 := BitVec.toInt_eq_toNat_cond (IntOp.minsi 2499#32 (IntOp.maxsi 0#32 w))
  have h3 := (IntOp.minsi 2499#32 (IntOp.maxsi 0#32 w)).isLt
  rw [h1] at h2
  split at h2 <;> omega

/-- The index of output position `p`. -/
def slot (S : ℕ → ℕ → Prop) (p : ℕ) : Fin 2500 := ⟨(slotOf S p).toNat, slotWord_lt _ _ _ _⟩

theorem slotOf_eq (S : ℕ → ℕ → Prop) (p : ℕ) : slotOf S p = BitVec.ofNat 32 (slot S p) := by
  rw [slot, BitVec.ofNat_toNat, BitVec.setWidth_eq]

/-- The word only looks at the survivor of a position that has one. -/
theorem slotWord_congr {S : ℕ → ℕ → Prop} {n last s : BitVec 32} {p : ℕ} (hp : p < 256) (hn : n = BitVec.ofNat 32 (total S))
    (hl : last = BitVec.ofNat 32 (pick S (total S - 1))) (hs : p < total S → s = BitVec.ofNat 32 (pick S p)) :
    slotWord n last s (BitVec.ofNat 32 p) = slotOf S p := by
  subst hn hl
  have ht := total_le S
  by_cases h : p < total S
  · rw [hs h]; rfl
  · unfold slotOf slotWord
    rw [WordCmp.cmpi_slt_ofNat (by omega) (by omega), ofBool_decide, select_bit, select_bit, if_neg h, if_neg h]

end Cert.Nms

end
-- ==== Proof.StepKernelIdeal.lean ====
/-
  The kernel's vector expressions at an index, at the ideal values: the positions, the starting state, one box's turn, the
  selection row, and the block the body leaves.
-/
module

public import proofs.«01_k».proof.Proof.BodyKernelIdeal
public import proofs.«01_k».proof.Proof.Spec
public import Idealize.ShloMosaic.Lib.Pointwise

@[expose] public section

set_option maxRecDepth 16384

noncomputable section

namespace Cert.KernelIdeal.Body

open Cert.KernelIdeal Cert.KernelIdeal.Gen Cert.Nms
open Idealize.ShloMosaic Idealize.ShloMosaic.TcCoe
open Idealize.SL.Sem

attribute [local instance] Classical.propDecidable

/-- The positions' array holds each box's own position. -/
theorem pos_at (r : Fin 20) (l : Fin 128) : k0_pay9 (ix2 r l) = BitVec.ofNat 32 (128 * (r : ℕ) + l) := by
  pointwise [k0_pay9]
  show BitVec.ofNat 32 (r : ℕ) * BitVec.ofNat 32 128 + BitVec.ofNat 32 (l : ℕ) = _
  rw [← BitVec.ofNat_mul, ← BitVec.ofNat_add, Nat.mul_comm]

/-- At the start every box is kept, the padding is not. -/
theorem start_at (r : Fin 20) (l : Fin 128) : k0_pay10 (ix2 r l) = (bit (128 * (r : ℕ) + l < 2500)).setWidth 32 := by
  have hr := r.isLt
  have hl := l.isLt
  have e : k0_pay10 (ix2 r l) = BitVec.setWidth 32 (IntOp.cmpi .slt (k0_pay9 (ix2 r l)) 2500#32) := by
    pointwise [k0_pay10, k0_pay9]
  rw [e, pos_at, WordCmp.cmpi_slt_ofNat (by omega) (by omega), ofBool_decide]

/-- Two bits as words: 1 is above 0. -/
theorem cond_bit (P : Prop) : k0_cond1 ((bit P).setWidth 32) = bit P := by
  by_cases h : P
  · rw [bit_true h]; decide
  · rw [bit_false h]; decide

/-- The word of box `i` read back by a masked sum. -/
theorem ki_at (keep : Vec Ideal S20x128 .i32) (i : ℕ) (r : Fin 20) (l : Fin 128) (hi : i = 128 * (r : ℕ) + l) :
    kiOf (F := Ideal) (BitVec.ofNat 32 i) keep = keep (ix2 r l) := by
  have hr := r.isLt
  have hl := l.isLt
  have e : kiOf (F := Ideal) (BitVec.ofNat 32 i) keep = Finset.univ.fold IntOp.addi 0#32 (fun x : Fin 20 × Fin 128 =>
      Scalar.select (IntOp.cmpi .eq (k0_pay9 (ix2 x.1 x.2)) (BitVec.ofNat 32 i)) (keep (ix2 x.1 x.2)) 0#32) := by
    pointwise [kiOf, k0_pay2]
  rw [e]
  refine (fold_addi_single _ (r, l) ?_).trans ?_
  · rintro ⟨r', l'⟩ hne
    have hr' := r'.isLt
    have hl' := l'.isLt
    have : ¬ 128 * (r' : ℕ) + l' = i := fun h => hne (Prod.ext (Fin.ext (by show (r' : ℕ) = r; omega)) (Fin.ext (by show (l' : ℕ) = l; omega)))
    rw [pos_at, WordCmp.cmpi_eq_ofNat (by omega) (by omega), ofBool_decide, select_bit, if_neg this]
  · rw [pos_at, WordCmp.cmpi_eq_ofNat (by omega) (by omega), ofBool_decide, select_bit, if_pos hi.symm]

/-- One box's turn at one position: the position is cleared when the box covers it and stands before it. -/
theorem turn_at (y1 x1 y2 x2 : FVec Ideal S1x20x128 .f32) (keep : Vec Ideal S20x128 .i32) (p q u v : EReal) (i : ℕ) (hi : i < 2500)
    (r : Fin 20) (l : Fin 128) :
    k0_pay13 (F := Ideal) k0_pay9 (k0_pay6 y2) (k0_pay4 y1) (k0_pay7 x2) (k0_pay5 x1) (k0_pay8 y1 x1 y2 x2) (BitVec.ofNat 32 i) keep p q u v (ix2 r l)
      = Scalar.select (bit (Ideal.ofBits .f32 1056964608#32 < overlap ![p, q, u, v] ![y1 (ix3 0 r l), x1 (ix3 0 r l), y2 (ix3 0 r l), x2 (ix3 0 r l)]
          ∧ i < 128 * (r : ℕ) + l)) 0#32 (keep (ix2 r l)) := by
  have hr := r.isLt
  have hl := l.isLt
  rw [← andi_bit]
  have e : bit (i < 128 * (r : ℕ) + l) = IntOp.cmpi .sgt (k0_pay9 (ix2 r l)) (BitVec.ofNat 32 i) := by
    rw [pos_at, WordCmp.cmpi_sgt_ofNat (by omega) (by omega), ofBool_decide]
  rw [e]
  pointwise [k0_pay13, k0_pay4, k0_pay5, k0_pay6, k0_pay7, k0_pay8]
  rw [ofBool_decide]
  rfl

/-- The selection row after box `i` was appended at place `n`. -/
theorem sel_at (sel : Vec Ideal S1x256 .i32) (i n : ℕ) (hn : n < 256) (l : Fin 256) :
    k0_pay3 (F := Ideal) lane256 (BitVec.ofNat 32 i) (BitVec.ofNat 32 n) sel (ix2 0 l)
      = Scalar.select (bit ((l : ℕ) = n)) (BitVec.ofNat 32 i) (sel (ix2 0 l)) := by
  have hl := l.isLt
  rw [← ofBool_decide _ inferInstance, ← WordCmp.cmpi_eq_ofNat (w := 32) (by omega) (by omega)]
  pointwise [k0_pay3]

/-- A bit turned into a float. -/
theorem float_bit (P : Prop) : FloatOps.sitofp (F := Ideal) .f32 ((bit P).setWidth 32) = (if P then 1 else 0 : EReal) := by
  by_cases h : P
  · rw [bit_true h, if_pos h]
    show (((BitVec.setWidth 32 (1#1)).toInt : ℝ) : EReal) = 1
    rw [show (BitVec.setWidth 32 (1#1)).toInt = 1 from rfl]
    norm_num
  · rw [bit_false h, if_neg h]
    show (((BitVec.setWidth 32 (0#1)).toInt : ℝ) : EReal) = 0
    rw [show (BitVec.setWidth 32 (0#1)).toInt = 0 from rfl]
    norm_num

/-- THE BLOCK THE BODY LEAVES, once the selection row holds the survivors: every row of the table read at the common index of
    the output position. -/
theorem out_at (S : ℕ → ℕ → Prop) (sel : Vec Ideal S1x256 .i32) (T : FVec Ideal S1x5x2560 .f32)
    (hs : ∀ l : Fin 256, (l : ℕ) < total S → sel (ix2 0 l) = BitVec.ofNat 32 (pick S l)) (c0 : Fin 1) (f : Fin 5) (l : Fin 256)
    (k : Fin 2560) (hk : (k : ℕ) = slot S l) :
    k0_pay1 (F := Ideal) lane256 (BitVec.ofNat 32 (total S)) sel (k0_pay12 (BitVec.ofNat 32 (total S))) 0#32 T (ix3 c0 f l)
      = T (ix3 0 f k) := by
  have h0 := total_pos S
  have h1 := total_le S
  have hl := l.isLt
  have hz : total S - 1 < 256 := by omega
  have hlast : (Finset.univ.fold IntOp.addi 0#32 fun x : Fin 1 × Fin 256 =>
      Scalar.select (k0_pay12 (BitVec.ofNat 32 (total S)) (ix2 0 x.2)) (sel (ix2 0 x.2)) 0#32) = BitVec.ofNat 32 (pick S (total S - 1)) := by
    have hm : ∀ x : Fin 256, k0_pay12 (BitVec.ofNat 32 (total S)) (ix2 0 x) = bit ((x : ℕ) = total S - 1) := by
      intro x
      have hx := x.isLt
      have e : k0_pay12 (BitVec.ofNat 32 (total S)) (ix2 0 x)
          = IntOp.cmpi .eq (BitVec.ofNat 32 x) (Scalar.subi (BitVec.ofNat 32 (total S)) 1#32) := by
        pointwise [k0_pay12]
      have e2 : Scalar.subi (BitVec.ofNat 32 (total S)) 1#32 = BitVec.ofNat 32 (total S - 1) := by
        refine BitVec.eq_of_toNat_eq ?_
        show (BitVec.ofNat 32 (total S) - BitVec.ofNat 32 1).toNat = _
        rw [BitVec.toNat_sub, BitVec.toNat_ofNat, BitVec.toNat_ofNat, BitVec.toNat_ofNat]
        omega
      rw [e, e2, WordCmp.cmpi_eq_ofNat (by omega) (by omega), ofBool_decide]
    refine (fold_addi_single _ ((0 : Fin 1), (⟨total S - 1, hz⟩ : Fin 256)) ?_).trans ?_
    · rintro ⟨x0, x⟩ hne
      have : ¬ (x : ℕ) = total S - 1 := fun h => hne (Prod.ext (Subsingleton.elim _ _) (Fin.ext h))
      rw [hm, select_bit, if_neg this]
    · rw [hm, select_bit, if_pos rfl, hs _ (show total S - 1 < total S by omega)]
  have hw := (slotWord_congr (S := S) hl rfl hlast (hs l)).trans (slotOf_eq S l)
  have hmask : ∀ x : Fin 2560, FloatOps.sitofp (F := Ideal) .f32 (BitVec.setWidth 32 (IntOp.cmpi .eq (BitVec.ofNat 32 x) (BitVec.ofNat 32 (slot S l))))
      = (if x = k then 1 else 0 : EReal) := by
    intro x
    have hx := x.isLt
    have hs := (slot S l).isLt
    rw [WordCmp.cmpi_eq_ofNat (by omega) (by omega), ofBool_decide, float_bit]
    by_cases h : x = k
    · rw [if_pos h, if_pos (show (x : ℕ) = slot S l by rw [h, hk])]
    · rw [if_neg h, if_neg (fun hv : (x : ℕ) = slot S l => h (Fin.ext (hv.trans hk.symm)))]
  rw [← hw] at hmask
  have e : k0_pay1 (F := Ideal) lane256 (BitVec.ofNat 32 (total S)) sel (k0_pay12 (BitVec.ofNat 32 (total S))) 0#32 T (ix3 c0 f l)
      = ∑ x : Fin 2560, T (ix3 0 f x) * (if x = k then 1 else 0 : EReal) := by
    simp only [← hmask]
    pointwise [k0_pay1]
    rfl
  rw [e]
  refine (Finset.sum_eq_single k (fun x _ hx => ?_) (fun h => absurd (Finset.mem_univ k) h)).trans ?_
  · rw [if_neg hx, mul_zero]
  · rw [if_pos rfl, mul_one]

end Cert.KernelIdeal.Body

end
-- ==== Proof.LoopKernelIdeal.lean ====
/-
  The kernel's loop at the ideal values: before box `i`'s turn the state holds the survivors of the first `i` boxes, so the
  state it stops at holds the selected ones, and the block the body leaves reads the table at the common indices.
-/
module

public import proofs.«01_k».proof.Proof.StepKernelIdeal

@[expose] public section

set_option maxRecDepth 16384

noncomputable section

namespace Cert.KernelIdeal.Body

open Cert.KernelIdeal Cert.KernelIdeal.Gen Cert.Nms
open Idealize.ShloMosaic Idealize.ShloMosaic.TcCoe
open Idealize.SL.Sem

attribute [local instance] Classical.propDecidable

/-- The word of a coordinate block at a box. -/
theorem word_at (x : FVec Ideal S1x1x2560 .f32) (k : ℕ) (hk : k < 2500) :
    word (F := Ideal) x (BitVec.ofNat 32 k) = x (ix3 0 0 ⟨k, by omega⟩) := by
  unfold word
  rw [dif_pos (off_box k hk)]
  refine congrArg x ?_
  have h : (Scalar.indexCast (BitVec.ofNat 32 k)).toNat = k := by
    show (BitVec.ofNat 32 k).toNat = k
    rw [BitVec.toNat_ofNat]
    omega
  funext a
  match a with
  | ⟨0, _⟩ => exact Subsingleton.elim (α := Fin 1) _ _
  | ⟨1, _⟩ => exact Subsingleton.elim (α := Fin 1) _ _
  | ⟨2, _⟩ =>
    refine Fin.ext ?_
    show (Scalar.indexCast (BitVec.ofNat 32 k)).toNat + 1 * 0 = k
    omega

attribute [local irreducible] k0_pay1 k0_pay2 k0_pay3 k0_pay4 k0_pay5 k0_pay6 k0_pay7 k0_pay8 k0_pay9 k0_pay10 k0_pay11 k0_pay12 k0_pay13 k0_cond1 extractAt iota kiOf word

/-- A box still kept: the state after its turn. -/
theorem trip_pos (B : Blk Ideal) (i : BitVec 32) (s : KState Ideal) (h : k0_cond1 (kiOf (F := Ideal) i s.keep) = 1#1) :
    trip B i s = ⟨k0_pay13 k0_pay9 (k0_pay6 B.y2) (k0_pay4 B.y1) (k0_pay7 B.x2) (k0_pay5 B.x1) (k0_pay8 B.y1 B.x1 B.y2 B.x2) i s.keep
      (word B.sy1 i) (word B.sx1 i) (word B.sy2 i) (word B.sx2 i), k0_pay3 (F := Ideal) lane256 i s.cnt s.sel,
      Scalar.addi s.cnt (kiOf (F := Ideal) i s.keep)⟩ := by
  unfold trip
  rw [if_pos h, if_pos h]

/-- A box already removed: only the count is touched. -/
theorem trip_neg (B : Blk Ideal) (i : BitVec 32) (s : KState Ideal) (h : ¬ k0_cond1 (kiOf (F := Ideal) i s.keep) = 1#1) :
    trip B i s = ⟨s.keep, s.sel, Scalar.addi s.cnt (kiOf (F := Ideal) i s.keep)⟩ := by
  unfold trip
  rw [if_neg h, if_neg h]

/-- The coordinate blocks hold the boxes `X`. -/
structure Holds (X : Fin 2500 → Fin 4 → EReal) (B : Blk Ideal) : Prop where
  y1 : ∀ (r : Fin 20) (l : Fin 128) (h : 128 * (r : ℕ) + l < 2500), B.y1 (ix3 0 r l) = X ⟨_, h⟩ 0
  x1 : ∀ (r : Fin 20) (l : Fin 128) (h : 128 * (r : ℕ) + l < 2500), B.x1 (ix3 0 r l) = X ⟨_, h⟩ 1
  y2 : ∀ (r : Fin 20) (l : Fin 128) (h : 128 * (r : ℕ) + l < 2500), B.y2 (ix3 0 r l) = X ⟨_, h⟩ 2
  x2 : ∀ (r : Fin 20) (l : Fin 128) (h : 128 * (r : ℕ) + l < 2500), B.x2 (ix3 0 r l) = X ⟨_, h⟩ 3
  sy1 : ∀ k (h : k < 2500), word B.sy1 (BitVec.ofNat 32 k) = X ⟨k, h⟩ 0
  sx1 : ∀ k (h : k < 2500), word B.sx1 (BitVec.ofNat 32 k) = X ⟨k, h⟩ 1
  sy2 : ∀ k (h : k < 2500), word B.sy2 (BitVec.ofNat 32 k) = X ⟨k, h⟩ 2
  sx2 : ∀ k (h : k < 2500), word B.sx2 (BitVec.ofNat 32 k) = X ⟨k, h⟩ 3

/-- What the state holds before box `i`'s turn. -/
structure Inv (S : ℕ → ℕ → Prop) (i : ℕ) (s : KState Ideal) : Prop where
  keep : ∀ (r : Fin 20) (l : Fin 128),
    s.keep (ix2 r l) = (bit (128 * (r : ℕ) + l < 2500 ∧ alive S i (128 * (r : ℕ) + l))).setWidth 32
  cnt : s.cnt = BitVec.ofNat 32 (Nms.cnt S i)
  sel : ∀ l : Fin 256, (l : ℕ) < Nms.cnt S i → s.sel (ix2 0 l) = BitVec.ofNat 32 (pick S l)
  le : Nms.cnt S i ≤ 200

/-- At the start nothing was removed and nothing is chosen. -/
theorem inv_start (S : ℕ → ℕ → Prop) : Inv S 0 (start (F := Ideal)) where
  keep r l := (start_at r l).trans (congrArg (BitVec.setWidth 32) (bit_congr ⟨fun h => ⟨h, trivial⟩, And.left⟩))
  cnt := by rw [cnt_zero]; rfl
  sel l h := absurd h (by rw [cnt_zero]; omega)
  le := by rw [cnt_zero]; omega

/-- The loop's test at a box, read. -/
theorem test_iff {i n : ℕ} (hi : i ≤ 2500) (hn : n ≤ 200) :
    test (BitVec.ofNat 32 i) (BitVec.ofNat 32 n) = 1#1 ↔ i < 2500 ∧ n < 200 := by
  have e : test (BitVec.ofNat 32 i) (BitVec.ofNat 32 n) = bit (i < 2500 ∧ n < 200) := by
    rw [← andi_bit, ← ofBool_decide (i < 2500) inferInstance, ← ofBool_decide (n < 200) inferInstance,
      ← WordCmp.cmpi_slt_ofNat (w := 32) (by omega) (by omega), ← WordCmp.cmpi_slt_ofNat (w := 32) (by omega) (by omega)]
    rfl
  rw [e, bit_eq_one]

/-- One box's turn keeps the invariant. -/
theorem inv_trip {X : Fin 2500 → Fin 4 → EReal} {B : Blk Ideal} (hB : Holds X B) {i : ℕ} {s : KState Ideal}
    (h : Inv (covers X) i s) (hi : i < 2500) (hn : Nms.cnt (covers X) i < 200) :
    Inv (covers X) (i + 1) (trip B (BitVec.ofNat 32 i) s) := by
  have hr : i / 128 < 20 := by omega
  have hl : i % 128 < 128 := by omega
  have hil : 128 * (i / 128) + i % 128 = i := Nat.div_add_mod i 128
  have hki : kiOf (F := Ideal) (BitVec.ofNat 32 i) s.keep = (bit (kept (covers X) i)).setWidth 32 := by
    rw [ki_at s.keep i ⟨i / 128, hr⟩ ⟨i % 128, hl⟩ hil.symm, h.keep]
    refine congrArg (BitVec.setWidth 32) (bit_congr ?_)
    show 128 * (i / 128) + i % 128 < 2500 ∧ alive (covers X) i (128 * (i / 128) + i % 128) ↔ alive (covers X) i i
    rw [hil]
    exact and_iff_right hi
  have hcond : k0_cond1 (kiOf (F := Ideal) (BitVec.ofNat 32 i) s.keep) = 1#1 ↔ kept (covers X) i := by
    rw [hki, cond_bit, bit_eq_one]
  by_cases hk : kept (covers X) i
  · have hc := hcond.mpr hk
    have hsucc : Nms.cnt (covers X) (i + 1) = Nms.cnt (covers X) i + 1 := by rw [cnt_succ, if_pos hk]
    rw [trip_pos B _ s hc]
    refine ⟨fun r l => ?_, ?_, fun l hlt => ?_, by omega⟩
    · refine (turn_at B.y1 B.x1 B.y2 B.x2 s.keep _ _ _ _ i hi r l).trans ?_
      rw [select_bit, h.keep, hB.sy1 i hi, hB.sx1 i hi, hB.sy2 i hi, hB.sx2 i hi]
      by_cases hj : 128 * (r : ℕ) + l < 2500
      · rw [hB.y1 r l hj, hB.x1 r l hj, hB.y2 r l hj, hB.x2 r l hj]
        have hov : overlap ![X ⟨i, hi⟩ 0, X ⟨i, hi⟩ 1, X ⟨i, hi⟩ 2, X ⟨i, hi⟩ 3]
            ![X ⟨_, hj⟩ 0, X ⟨_, hj⟩ 1, X ⟨_, hj⟩ 2, X ⟨_, hj⟩ 3] = overlap (boxAt X i) (boxAt X (128 * (r : ℕ) + l)) := by
          rw [show boxAt X i = X ⟨i, hi⟩ from boxAt_fin X ⟨i, hi⟩, show boxAt X (128 * (r : ℕ) + l) = X ⟨_, hj⟩ from boxAt_fin X ⟨_, hj⟩]
          rfl
        rw [hov]
        by_cases hcov : Ideal.ofBits .f32 1056964608#32 < overlap (boxAt X i) (boxAt X (128 * (r : ℕ) + l)) ∧ i < 128 * (r : ℕ) + l
        · rw [if_pos hcov, bit_false]
          · rfl
          · rintro ⟨_, h2⟩
            exact h2.2 ⟨hk, hcov.1, hcov.2⟩
        · rw [if_neg hcov]
          refine congrArg (BitVec.setWidth 32) (bit_congr (and_congr_right fun _ => ?_))
          exact ⟨fun ha => ⟨ha, fun hx => hcov ⟨hx.2.1, hx.2.2⟩⟩, And.left⟩
      · rw [bit_false (fun hx => hj hx.1), bit_false (fun hx => hj hx.1), show BitVec.setWidth 32 (0#1) = 0#32 from rfl, ite_self]
    · show Scalar.addi s.cnt (kiOf (F := Ideal) (BitVec.ofNat 32 i) s.keep) = _
      rw [hki, h.cnt, bit_true hk, hsucc, BitVec.ofNat_add]
      rfl
    · show k0_pay3 (F := Ideal) lane256 (BitVec.ofNat 32 i) s.cnt s.sel (ix2 0 l) = _
      rw [h.cnt, sel_at s.sel i _ (by omega) l, select_bit]
      by_cases he : (l : ℕ) = Nms.cnt (covers X) i
      · rw [if_pos he, he, pick_cnt _ hk]
      · rw [if_neg he]
        exact h.sel l (by omega)
  · have hc : ¬ k0_cond1 (kiOf (F := Ideal) (BitVec.ofNat 32 i) s.keep) = 1#1 := fun e => hk (hcond.mp e)
    have hsucc : Nms.cnt (covers X) (i + 1) = Nms.cnt (covers X) i := by rw [cnt_succ, if_neg hk, Nat.add_zero]
    rw [trip_neg B _ s hc]
    refine ⟨fun r l => ?_, ?_, fun l hlt => ?_, by omega⟩
    · refine (h.keep r l).trans ?_
      refine congrArg (BitVec.setWidth 32) (bit_congr (and_congr_right fun _ => ?_))
      exact ⟨fun ha => ⟨ha, fun hx => hk hx.1⟩, And.left⟩
    · show Scalar.addi s.cnt (kiOf (F := Ideal) (BitVec.ofNat 32 i) s.keep) = _
      rw [hki, h.cnt, bit_false hk, hsucc]
      exact BitVec.add_zero _
    · exact h.sel l (by omega)

/-- The state the loop stops at holds the selected boxes. -/
theorem go_at {X : Fin 2500 → Fin 4 → EReal} {B : Blk Ideal} (hB : Holds X B) :
    ∀ k j, j + k = 2500 → ∀ s : KState Ideal, Inv (covers X) j s →
      (go B k j s).cnt = BitVec.ofNat 32 (total (covers X))
      ∧ ∀ l : Fin 256, (l : ℕ) < total (covers X) → (go B k j s).sel (ix2 0 l) = BitVec.ofNat 32 (pick (covers X) l)
  | 0, j, hj, s, h => by
    obtain rfl : j = 2500 := by omega
    have ht : total (covers X) = Nms.cnt (covers X) 2500 := Nat.min_eq_left h.le
    rw [ht]
    exact ⟨h.cnt, h.sel⟩
  | k + 1, j, hj, s, h => by
    by_cases hn : Nms.cnt (covers X) j < 200
    · have hgo : go B (k + 1) j s = go B k (j + 1) (trip B (BitVec.ofNat 32 j) s) := by
        show (if _ then _ else _) = _
        rw [if_pos]
        rw [h.cnt, test_iff (by omega) h.le]
        exact ⟨by omega, hn⟩
      rw [hgo]
      exact go_at hB k (j + 1) (by omega) _ (inv_trip hB h (by omega) hn)
    · have hgo : go B (k + 1) j s = s := by
        show (if _ then _ else _) = _
        rw [if_neg]
        rw [h.cnt, test_iff (by omega) h.le]
        exact fun hx => hn hx.2
      have h2 := h.le
      have hm := cnt_mono (covers X) (show j ≤ 2500 by omega)
      have ht : total (covers X) = Nms.cnt (covers X) j := by
        unfold total
        omega
      rw [hgo, ht]
      exact ⟨h.cnt, h.sel⟩

/-- THE BODY'S BLOCK: every row of the table read at the common index of the output position. -/
theorem outBlk_at {X : Fin 2500 → Fin 4 → EReal} {B : Blk Ideal} (hB : Holds X B) (c0 : Fin 1) (f : Fin 5) (l : Fin 256)
    (k : Fin 2560) (hk : (k : ℕ) = slot (covers X) l) : outBlk B (ix3 c0 f l) = B.tab (ix3 0 f k) := by
  obtain ⟨hc, hs⟩ := go_at hB 2500 0 (Nat.zero_add _) start (inv_start _)
  unfold outBlk stop
  rw [hc]
  exact out_at (covers X) _ B.tab hs c0 f l k hk

end Cert.KernelIdeal.Body

end
-- ==== Proof.ValueKernelIdeal.lean ====
/-
  The kernel's two results at an index, from the launch arguments: the value, and the box, standing at the common index of the
  output position among the boxes taken in order of their values.
-/
module

public import proofs.«01_k».proof.Proof.EntryKernelIdeal
public import proofs.«01_k».proof.Proof.BlocksKernelIdeal
public import proofs.«01_k».proof.Proof.LoopKernelIdeal

@[expose] public section

set_option maxRecDepth 16384

noncomputable section

namespace Cert.KernelIdeal.Body

open Cert.KernelIdeal Cert.KernelIdeal.Gen Cert.Nms
open Idealize.ShloMosaic Idealize.ShloMosaic.TcCoe Idealize.ShloMosaic.StableHlo
open Idealize.SL.Sem

attribute [local instance] Classical.propDecidable

variable (m : (ℓ : Loc nD τ sig) → Buf (Elt Ideal) ℓ) (c : Dev nD)

/-- The value argument at launch. -/
abbrev A0 : FVec Ideal S8x5000 .f32 := m ((c : Thread nD τ).loc main_arg0)
/-- The box argument at launch. -/
abbrev A1 : FVec Ideal S8x5000x4 .f32 := m ((c : Thread nD τ).loc main_arg1)
/-- The boxes in order of their values. -/
abbrev boxes : FVec Ideal S8x2500x4 .f32 := boxTerm (wideTerm (A0 m c)) (A1 m c)
/-- The largest values and their positions. -/
abbrev top (x : FVec Ideal S8x5000 .f32) : FVec Ideal S8x2500 .f32 × IVec S8x2500 32 :=
  Host.topK S8x2500 1 (FloatOps.cmpfTotal .gt) x sliceFits_S8x5000_S8x2500

/-- What a buffer holds at the launch, stretch by stretch. -/
theorem V_eq (b : Ref sig .tc) : V m c b = afterL (pre (F := Ideal)) (fun b => m (c, b)) (Proc.devRef .tc b) :=
  congrFun (afterL_eq_after_flatten _ _).symm _

/-- The boxes' first coordinate at the launch: as a padded row, as a grid and as a line. -/
theorem rowY1_at (b : Fin 8) (k : Fin 2560) (p : Fin 2500) (h : (k : ℕ) = p) :
    padY1Term (colY1Term (boxes m c)) cY1Term (ix2 b k) = boxes m c (ix3 b p 0) :=
  (pad_at _ _ b k p h).trans (colY1_at _ b p)
theorem V_v22 (b : Fin 8) (r : Fin 20) (l : Fin 128) (p : Fin 2500) (h : 128 * (r : ℕ) + l = p) :
    (V m c main_v22 : FVec Ideal S8x20x128 .f32) (ix3 b r l) = boxes m c (ix3 b p 0) :=
  (congrFun ((V_eq m c main_v22).trans (pre_v22 _)) (ix3 b r l)).trans <|
    (grid_at _ b r l ⟨p, by omega⟩ h).trans (rowY1_at m c b _ p rfl)
theorem V_v26 (b : Fin 8) (k : Fin 2560) (p : Fin 2500) (h : (k : ℕ) = p) :
    (V m c main_v26 : FVec Ideal S8x1x2560 .f32) (ix3 b 0 k) = boxes m c (ix3 b p 0) :=
  (congrFun ((V_eq m c main_v26).trans (pre_v26 _)) (ix3 b 0 k)).trans <|
    (line_at _ b 0 k).trans (rowY1_at m c b k p h)

/-- The boxes' second coordinate at the launch: as a padded row, as a grid and as a line. -/
theorem rowX1_at (b : Fin 8) (k : Fin 2560) (p : Fin 2500) (h : (k : ℕ) = p) :
    padX1Term (colX1Term (boxes m c)) cX1Term (ix2 b k) = boxes m c (ix3 b p 1) :=
  (pad_at _ _ b k p h).trans (colX1_at _ b p)
theorem V_v23 (b : Fin 8) (r : Fin 20) (l : Fin 128) (p : Fin 2500) (h : 128 * (r : ℕ) + l = p) :
    (V m c main_v23 : FVec Ideal S8x20x128 .f32) (ix3 b r l) = boxes m c (ix3 b p 1) :=
  (congrFun ((V_eq m c main_v23).trans (pre_v23 _)) (ix3 b r l)).trans <|
    (grid_at _ b r l ⟨p, by omega⟩ h).trans (rowX1_at m c b _ p rfl)
theorem V_v27 (b : Fin 8) (k : Fin 2560) (p : Fin 2500) (h : (k : ℕ) = p) :
    (V m c main_v27 : FVec Ideal S8x1x2560 .f32) (ix3 b 0 k) = boxes m c (ix3 b p 1) :=
  (congrFun ((V_eq m c main_v27).trans (pre_v27 _)) (ix3 b 0 k)).trans <|
    (line_at _ b 0 k).trans (rowX1_at m c b k p h)

/-- The boxes' third coordinate at the launch: as a padded row, as a grid and as a line. -/
theorem rowY2_at (b : Fin 8) (k : Fin 2560) (p : Fin 2500) (h : (k : ℕ) = p) :
    padY2Term (colY2Term (boxes m c)) cY2Term (ix2 b k) = boxes m c (ix3 b p 2) :=
  (pad_at _ _ b k p h).trans (colY2_at _ b p)
theorem V_v24 (b : Fin 8) (r : Fin 20) (l : Fin 128) (p : Fin 2500) (h : 128 * (r : ℕ) + l = p) :
    (V m c main_v24 : FVec Ideal S8x20x128 .f32) (ix3 b r l) = boxes m c (ix3 b p 2) :=
  (congrFun ((V_eq m c main_v24).trans (pre_v24 _)) (ix3 b r l)).trans <|
    (grid_at _ b r l ⟨p, by omega⟩ h).trans (rowY2_at m c b _ p rfl)
theorem V_v28 (b : Fin 8) (k : Fin 2560) (p : Fin 2500) (h : (k : ℕ) = p) :
    (V m c main_v28 : FVec Ideal S8x1x2560 .f32) (ix3 b 0 k) = boxes m c (ix3 b p 2) :=
  (congrFun ((V_eq m c main_v28).trans (pre_v28 _)) (ix3 b 0 k)).trans <|
    (line_at _ b 0 k).trans (rowY2_at m c b k p h)

/-- The boxes' fourth coordinate at the launch: as a padded row, as a grid and as a line. -/
theorem rowX2_at (b : Fin 8) (k : Fin 2560) (p : Fin 2500) (h : (k : ℕ) = p) :
    padX2Term (colX2Term (boxes m c)) cX2Term (ix2 b k) = boxes m c (ix3 b p 3) :=
  (pad_at _ _ b k p h).trans (colX2_at _ b p)
theorem V_v25 (b : Fin 8) (r : Fin 20) (l : Fin 128) (p : Fin 2500) (h : 128 * (r : ℕ) + l = p) :
    (V m c main_v25 : FVec Ideal S8x20x128 .f32) (ix3 b r l) = boxes m c (ix3 b p 3) :=
  (congrFun ((V_eq m c main_v25).trans (pre_v25 _)) (ix3 b r l)).trans <|
    (grid_at _ b r l ⟨p, by omega⟩ h).trans (rowX2_at m c b _ p rfl)
theorem V_v29 (b : Fin 8) (k : Fin 2560) (p : Fin 2500) (h : (k : ℕ) = p) :
    (V m c main_v29 : FVec Ideal S8x1x2560 .f32) (ix3 b 0 k) = boxes m c (ix3 b p 3) :=
  (congrFun ((V_eq m c main_v29).trans (pre_v29 _)) (ix3 b 0 k)).trans <|
    (line_at _ b 0 k).trans (rowX2_at m c b k p h)

/-- The table at the launch. -/
theorem V_v21_0 (b : Fin 8) (k : Fin 2560) (p : Fin 2500) (h : (k : ℕ) = p) :
    (V m c main_v21 : FVec Ideal S8x5x2560 .f32) (ix3 b 0 k) = (top (A0 m c)).1 (ix2 b p) :=
  (congrFun ((V_eq m c main_v21).trans (pre_v21 _)) (ix3 b 0 k)).trans <| (tab_at0 _ _ _ _ _ b k).trans (pad_at _ _ b k p h)
theorem V_v21_1 (b : Fin 8) (k : Fin 2560) (p : Fin 2500) (h : (k : ℕ) = p) :
    (V m c main_v21 : FVec Ideal S8x5x2560 .f32) (ix3 b 1 k) = boxes m c (ix3 b p 0) :=
  (congrFun ((V_eq m c main_v21).trans (pre_v21 _)) (ix3 b 1 k)).trans <| (tab_at1 _ _ _ _ _ b k).trans (rowY1_at m c b k p h)
theorem V_v21_2 (b : Fin 8) (k : Fin 2560) (p : Fin 2500) (h : (k : ℕ) = p) :
    (V m c main_v21 : FVec Ideal S8x5x2560 .f32) (ix3 b 2 k) = boxes m c (ix3 b p 1) :=
  (congrFun ((V_eq m c main_v21).trans (pre_v21 _)) (ix3 b 2 k)).trans <| (tab_at2 _ _ _ _ _ b k).trans (rowX1_at m c b k p h)
theorem V_v21_3 (b : Fin 8) (k : Fin 2560) (p : Fin 2500) (h : (k : ℕ) = p) :
    (V m c main_v21 : FVec Ideal S8x5x2560 .f32) (ix3 b 3 k) = boxes m c (ix3 b p 2) :=
  (congrFun ((V_eq m c main_v21).trans (pre_v21 _)) (ix3 b 3 k)).trans <| (tab_at3 _ _ _ _ _ b k).trans (rowY2_at m c b k p h)
theorem V_v21_4 (b : Fin 8) (k : Fin 2560) (p : Fin 2500) (h : (k : ℕ) = p) :
    (V m c main_v21 : FVec Ideal S8x5x2560 .f32) (ix3 b 4 k) = boxes m c (ix3 b p 3) :=
  (congrFun ((V_eq m c main_v21).trans (pre_v21 _)) (ix3 b 4 k)).trans <| (tab_at4 _ _ _ _ _ b k).trans (rowX2_at m c b k p h)

/-- The boxes of one batch row. -/
def rows (b : Fin 8) (p : Fin 2500) (f : Fin 4) : EReal := boxes m c (ix3 b p f)

/-- The rows of the table of results: the value, and the four coordinates. -/
def entry (b : Fin 8) (f : Fin 5) (p : Fin 2500) : EReal :=
  match f with
  | ⟨0, _⟩ => (top (A0 m c)).1 (ix2 b p)
  | ⟨f + 1, h⟩ => rows m c b p ⟨f, by omega⟩

/-- A grid point reads the boxes of its batch row. -/
theorem holds (t : Fin (cfg0 (F := Ideal)).N) : Holds (rows m c (rowOf t)) (blkAt m c t) where
  y1 r l h := (blk_y1 m c t r l).trans (V_v22 m c (rowOf t) r l ⟨_, h⟩ rfl)
  x1 r l h := (blk_x1 m c t r l).trans (V_v23 m c (rowOf t) r l ⟨_, h⟩ rfl)
  y2 r l h := (blk_y2 m c t r l).trans (V_v24 m c (rowOf t) r l ⟨_, h⟩ rfl)
  x2 r l h := (blk_x2 m c t r l).trans (V_v25 m c (rowOf t) r l ⟨_, h⟩ rfl)
  sy1 k h := (word_at _ k h).trans <| (blk_sy1 m c t _).trans (V_v26 m c (rowOf t) _ ⟨k, h⟩ rfl)
  sx1 k h := (word_at _ k h).trans <| (blk_sx1 m c t _).trans (V_v27 m c (rowOf t) _ ⟨k, h⟩ rfl)
  sy2 k h := (word_at _ k h).trans <| (blk_sy2 m c t _).trans (V_v28 m c (rowOf t) _ ⟨k, h⟩ rfl)
  sx2 k h := (word_at _ k h).trans <| (blk_sx2 m c t _).trans (V_v29 m c (rowOf t) _ ⟨k, h⟩ rfl)

/-- A grid point's table. -/
theorem table (t : Fin (cfg0 (F := Ideal)).N) (f : Fin 5) (k : Fin 2560) (p : Fin 2500) (h : (k : ℕ) = p) :
    (blkAt m c t).tab (ix3 0 f k) = entry m c (rowOf t) f p := by
  refine (blk_tab m c t f k).trans ?_
  match f with
  | ⟨0, _⟩ => exact V_v21_0 m c (rowOf t) k p h
  | ⟨1, _⟩ => exact V_v21_1 m c (rowOf t) k p h
  | ⟨2, _⟩ => exact V_v21_2 m c (rowOf t) k p h
  | ⟨3, _⟩ => exact V_v21_3 m c (rowOf t) k p h
  | ⟨4, _⟩ => exact V_v21_4 m c (rowOf t) k p h

/-- The table of results. -/
def outArr : FVec Ideal S8x5x256 .f32 := fun i =>
  entry m c ⟨(i 0).val, (i 0).isLt⟩ ⟨(i 1).val, (i 1).isLt⟩ (slot (covers (rows m c ⟨(i 0).val, (i 0).isLt⟩)) (i 2).val)

theorem outArr_at (b : Fin 8) (f : Fin 5) (l : Fin 256) :
    outArr m c (ix3 b f l) = entry m c b f (slot (covers (rows m c b)) l) := rfl

/-- The output block of a grid point. -/
theorem block_eq (t : Fin (cfg0 (F := Ideal)).N) (c0 : Fin 1) (f : Fin 5) (l : Fin 256) :
    outBlk (blkAt m c t) (ix3 c0 f l) = outArr m c (ix3 (rowOf t) f l) := by
  rw [outArr_at]
  have hlt := (slot (covers (rows m c (rowOf t))) l).isLt
  obtain ⟨k, hk⟩ : ∃ k : Fin 2560, (k : ℕ) = slot (covers (rows m c (rowOf t))) l := ⟨⟨_, hlt.trans (by norm_num)⟩, rfl⟩
  rw [outBlk_at (holds m c t) c0 f l k hk]
  exact table m c t f k _ hk

/-- The output array after the run. -/
theorem array_eq : (dats m 0 c).arrAt 9 (cfg0 (F := Ideal)).N = outArr m c :=
  array_at m c (outArr m c) (block_eq m c)

/-- What a buffer holds when the program ends. -/
abbrev tailV (b : Ref sig .tc) : Buf (Elt Ideal) ((c : Thread nD τ).loc b) :=
  Pipeline.afterTail₀ cfgs (dats m) 0 (fun c => StableHlo.after (List.flatten (pre (F := Ideal))) (fun b => m (c, b))) [hostOps1] c b

/-- The two results from the output array. -/
theorem tail_v32 : tailV m c main_v32 = res0Term (outArr m c) := by
  unfold tailV Pipeline.afterTail₀
  rw [← afterL_eq_after_flatten]
  simp only [afterL_cons, afterL_nil]
  rw [res0Term_eq]
  exact congrArg res0Term ((Pipeline.withArrays_arr spec0 winFacts0.arr_inj c _ _ 9).trans (array_eq m c))
theorem tail_v34 : tailV m c main_v34 = res1Term (outArr m c) := by
  unfold tailV Pipeline.afterTail₀
  rw [← afterL_eq_after_flatten]
  simp only [afterL_cons, afterL_nil]
  rw [res1Term_eq]
  exact congrArg res1Term ((Pipeline.withArrays_arr spec0 winFacts0.arr_inj c _ _ 9).trans (array_eq m c))

variable (q : Fin 8 → Fin 2500 → Fin 5000)
  (hv : ∀ b p, (top (A0 m c)).1 (ix2 b p) = A0 m c (ix2 b (q b p)))
  (hq : ∀ b p, (top (A0 m c)).2 (ix2 b p) = BitVec.ofNat 32 (q b p))

include hq in
/-- The boxes in order of their values, at an index. -/
theorem rows_eq (b : Fin 8) : rows m c b = fun p f => A1 m c (ix3 b (q b p) f) := by
  funext p f
  exact box_at _ _ b p f (q b p) ((wide_at _ b p f).trans (hq b p))

include hv hq in
/-- THE KERNEL'S FIRST RESULT at an index. -/
theorem value0 (b : Fin 8) (p : Fin 200) :
    (tailV m c main_v32 : FVec Ideal S8x200 .f32) (ix2 b p)
      = A0 m c (ix2 b (q b (slot (covers fun p f => A1 m c (ix3 b (q b p) f)) p))) := by
  refine (congrFun (tail_v32 m c) (ix2 b p)).trans ((res0_at _ b p ⟨p, by omega⟩ rfl).trans ?_)
  rw [← rows_eq m c q hq b]
  exact hv b _

include hq in
/-- THE KERNEL'S SECOND RESULT at an index. -/
theorem value1 (b : Fin 8) (p : Fin 200) (f : Fin 4) :
    (tailV m c main_v34 : FVec Ideal S8x200x4 .f32) (ix3 b p f)
      = A1 m c (ix3 b (q b (slot (covers fun p f => A1 m c (ix3 b (q b p) f)) p)) f) := by
  refine (congrFun (tail_v34 m c) (ix3 b p f)).trans ((res1_at _ b p ⟨p, by omega⟩ rfl f ⟨f + 1, by omega⟩ rfl).trans ?_)
  show rows m c b (slot (covers (rows m c b)) p) f = _
  rw [rows_eq m c q hq b]

end Cert.KernelIdeal.Body

end
-- ==== Proof.ArgsReferenceIdeal.lean ====
/-
  What the reference's host operations leave alone: per stretch, the buffers it does not write; and the whole program's arguments.
-/
module

public import proofs.«01_k».proof.Proof.Gen.ReferenceIdeal.Run
public import proofs.«01_k».proof.Proof.Gen.ReferenceIdeal
public import Idealize.ShloMosaic.Lib.Quiescent

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo
open Idealize.SL.Sem

variable {F : FTy → Type} [FloatOps F]

/-- A buffer that the stretch `hostOps0_7` does not write keeps its contents through it. -/
theorem keep_hostOps0_7 (X : Valuation τ sig (Elt F)) {r : Ref sig .tc} (h : r ∉ ([main_c_5] : List (Ref sig .tc))) :
    StableHlo.after (hostOps0_7 : List (HloOp τ sig (Elt F))) X (Proc.devRef .tc r) = X (Proc.devRef .tc r) :=
  StableHlo.after_of_writes_sub _ X (StableHlo.forall_writes_sub_of_map rfl) h

/-- A buffer that the stretch `hostOps0_8` does not write keeps its contents through it. -/
theorem keep_hostOps0_8 (X : Valuation τ sig (Elt F)) {r : Ref sig .tc} (h : r ∉ ([main_call5_v0, main_call5_v1, main_call5_v2, main_v55] : List (Ref sig .tc))) :
    StableHlo.after (hostOps0_8 : List (HloOp τ sig (Elt F))) X (Proc.devRef .tc r) = X (Proc.devRef .tc r) :=
  StableHlo.after_of_writes_sub _ X (StableHlo.forall_writes_sub_of_map rfl) h

/-- A buffer that the stretch `hostOps0_9` does not write keeps its contents through it. -/
theorem keep_hostOps0_9 (X : Valuation τ sig (Elt F)) {r : Ref sig .tc} (h : r ∉ ([main_v56] : List (Ref sig .tc))) :
    StableHlo.after (hostOps0_9 : List (HloOp τ sig (Elt F))) X (Proc.devRef .tc r) = X (Proc.devRef .tc r) :=
  StableHlo.after_of_writes_sub _ X (StableHlo.forall_writes_sub_of_map rfl) h

/-- A buffer that the stretch `hostOps0_10` does not write keeps its contents through it. -/
theorem keep_hostOps0_10 (X : Valuation τ sig (Elt F)) {r : Ref sig .tc} (h : r ∉ ([main_v57, main_c_6, main_v58, main_v59, main_c_7, main_v60, main_v61, main_v62, main_v63, main_v64, main_v65, main_v66, main_v67, main_c_8] : List (Ref sig .tc))) :
    StableHlo.after (hostOps0_10 : List (HloOp τ sig (Elt F))) X (Proc.devRef .tc r) = X (Proc.devRef .tc r) :=
  StableHlo.after_of_writes_sub _ X (StableHlo.forall_writes_sub_of_map rfl) h

/-- A buffer that the stretch `hostOps0_11` does not write keeps its contents through it. -/
theorem keep_hostOps0_11 (X : Valuation τ sig (Elt F)) {r : Ref sig .tc} (h : r ∉ ([main_call7_v0, main_call7_v1, main_v68] : List (Ref sig .tc))) :
    StableHlo.after (hostOps0_11 : List (HloOp τ sig (Elt F))) X (Proc.devRef .tc r) = X (Proc.devRef .tc r) :=
  StableHlo.after_of_writes_sub _ X (StableHlo.forall_writes_sub_of_map rfl) h

/-- A buffer that the stretch `hostOps0_12` does not write keeps its contents through it. -/
theorem keep_hostOps0_12 (X : Valuation τ sig (Elt F)) {r : Ref sig .tc} (h : r ∉ ([main_c_9, main_v69, main_v70, main_c_10, main_v71, main_v72, main_c_11, main_v73, main_v74, main_c_12, main_v75, main_v76, main_v77, main_v78, main_v79, main_v80, main_v81, main_v82, main_v83, main_v84, main_v85, main_v86, main_v87] : List (Ref sig .tc))) :
    StableHlo.after (hostOps0_12 : List (HloOp τ sig (Elt F))) X (Proc.devRef .tc r) = X (Proc.devRef .tc r) :=
  StableHlo.after_of_writes_sub _ X (StableHlo.forall_writes_sub_of_map rfl) h

/-- A buffer that the stretch `hostOps0_13` does not write keeps its contents through it. -/
theorem keep_hostOps0_13 (X : Valuation τ sig (Elt F)) {r : Ref sig .tc} (h : r ∉ ([main_v88] : List (Ref sig .tc))) :
    StableHlo.after (hostOps0_13 : List (HloOp τ sig (Elt F))) X (Proc.devRef .tc r) = X (Proc.devRef .tc r) :=
  StableHlo.after_of_writes_sub _ X (StableHlo.forall_writes_sub_of_map rfl) h

/-- A buffer that the stretch `hostOps0_14` does not write keeps its contents through it. -/
theorem keep_hostOps0_14 (X : Valuation τ sig (Elt F)) {r : Ref sig .tc} (h : r ∉ ([main_c_13, main_c_14] : List (Ref sig .tc))) :
    StableHlo.after (hostOps0_14 : List (HloOp τ sig (Elt F))) X (Proc.devRef .tc r) = X (Proc.devRef .tc r) :=
  StableHlo.after_of_writes_sub _ X (StableHlo.forall_writes_sub_of_map rfl) h

/-- A buffer that the stretch `hostOps0_15` does not write keeps its contents through it. -/
theorem keep_hostOps0_15 (X : Valuation τ sig (Elt F)) {r : Ref sig .tc} (h : r ∉ ([main_call9_v0, main_call9_v1, main_call9_v2, main_call9_v3, main_call9_v4, main_v89] : List (Ref sig .tc))) :
    StableHlo.after (hostOps0_15 : List (HloOp τ sig (Elt F))) X (Proc.devRef .tc r) = X (Proc.devRef .tc r) :=
  StableHlo.after_of_writes_sub _ X (StableHlo.forall_writes_sub_of_map rfl) h

/-- A buffer that the stretch `hostOps0_16` does not write keeps its contents through it. -/
theorem keep_hostOps0_16 (X : Valuation τ sig (Elt F)) {r : Ref sig .tc} (h : r ∉ ([main_call10_c, main_call10_v0, main_call10_v1, main_call10_c_0, main_call10_v2, main_call10_v3, main_call10_v4, main_call10_v5, main_call10_c_1, main_call10_c_2, main_call10_v6, main_call10_v7, main_call10_v8, main_call10_v9, main_call10_v10, main_call10_v11, main_call10_c_3, main_call10_v12, main_call10_v13, main_call10_cst, main_call10_v14, main_v90] : List (Ref sig .tc))) :
    StableHlo.after (hostOps0_16 : List (HloOp τ sig (Elt F))) X (Proc.devRef .tc r) = X (Proc.devRef .tc r) :=
  StableHlo.after_of_writes_sub _ X (StableHlo.forall_writes_sub_of_map rfl) h

/-- A buffer that the stretch `hostOps0_17` does not write keeps its contents through it. -/
theorem keep_hostOps0_17 (X : Valuation τ sig (Elt F)) {r : Ref sig .tc} (h : r ∉ ([main_v91, main_v92] : List (Ref sig .tc))) :
    StableHlo.after (hostOps0_17 : List (HloOp τ sig (Elt F))) X (Proc.devRef .tc r) = X (Proc.devRef .tc r) :=
  StableHlo.after_of_writes_sub _ X (StableHlo.forall_writes_sub_of_map rfl) h

/-- A buffer that the stretch `hostOps0_18` does not write keeps its contents through it. -/
theorem keep_hostOps0_18 (X : Valuation τ sig (Elt F)) {r : Ref sig .tc} (h : r ∉ ([main_call11_c, main_call11_v0, main_call11_v1, main_call11_c_0, main_call11_v2, main_call11_v3, main_call11_v4, main_call11_v5, main_call11_c_1, main_call11_c_2, main_call11_v6, main_call11_v7, main_call11_v8, main_call11_v9, main_call11_v10, main_call11_v11, main_call11_c_3, main_call11_v12, main_call11_v13, main_call11_cst, main_call11_v14, main_v93] : List (Ref sig .tc))) :
    StableHlo.after (hostOps0_18 : List (HloOp τ sig (Elt F))) X (Proc.devRef .tc r) = X (Proc.devRef .tc r) :=
  StableHlo.after_of_writes_sub _ X (StableHlo.forall_writes_sub_of_map rfl) h

/-- A buffer that the stretch `hostOps0` does not write keeps its contents through it. -/
theorem keep_hostOps0 (X : Valuation τ sig (Elt F)) {r : Ref sig .tc} (h : r ∉ hostOps0_W) :
    StableHlo.after (hostOps0 : List (HloOp τ sig (Elt F))) X (Proc.devRef .tc r) = X (Proc.devRef .tc r) :=
  StableHlo.after_of_writes_sub _ X hostOps0_writes h

/-- A buffer that the stretch `hostOps0_1` does not write keeps its contents through it. -/
theorem keep_hostOps0_1 (X : Valuation τ sig (Elt F)) {r : Ref sig .tc} (h : r ∉ hostOps0_1_W) :
    StableHlo.after (hostOps0_1 : List (HloOp τ sig (Elt F))) X (Proc.devRef .tc r) = X (Proc.devRef .tc r) :=
  StableHlo.after_of_writes_sub _ X hostOps0_1_writes h

/-- A buffer that the stretch `hostOps0_2` does not write keeps its contents through it. -/
theorem keep_hostOps0_2 (X : Valuation τ sig (Elt F)) {r : Ref sig .tc} (h : r ∉ hostOps0_2_W) :
    StableHlo.after (hostOps0_2 : List (HloOp τ sig (Elt F))) X (Proc.devRef .tc r) = X (Proc.devRef .tc r) :=
  StableHlo.after_of_writes_sub _ X hostOps0_2_writes h

/-- A buffer that the stretch `hostOps0_3` does not write keeps its contents through it. -/
theorem keep_hostOps0_3 (X : Valuation τ sig (Elt F)) {r : Ref sig .tc} (h : r ∉ hostOps0_3_W) :
    StableHlo.after (hostOps0_3 : List (HloOp τ sig (Elt F))) X (Proc.devRef .tc r) = X (Proc.devRef .tc r) :=
  StableHlo.after_of_writes_sub _ X hostOps0_3_writes h

/-- A buffer that the stretch `hostOps0_4` does not write keeps its contents through it. -/
theorem keep_hostOps0_4 (X : Valuation τ sig (Elt F)) {r : Ref sig .tc} (h : r ∉ hostOps0_4_W) :
    StableHlo.after (hostOps0_4 : List (HloOp τ sig (Elt F))) X (Proc.devRef .tc r) = X (Proc.devRef .tc r) :=
  StableHlo.after_of_writes_sub _ X hostOps0_4_writes h

/-- A buffer that the stretch `hostOps0_5` does not write keeps its contents through it. -/
theorem keep_hostOps0_5 (X : Valuation τ sig (Elt F)) {r : Ref sig .tc} (h : r ∉ hostOps0_5_W) :
    StableHlo.after (hostOps0_5 : List (HloOp τ sig (Elt F))) X (Proc.devRef .tc r) = X (Proc.devRef .tc r) :=
  StableHlo.after_of_writes_sub _ X hostOps0_5_writes h

/-- A buffer that the stretch `hostOps0_6` does not write keeps its contents through it. -/
theorem keep_hostOps0_6 (X : Valuation τ sig (Elt F)) {r : Ref sig .tc} (h : r ∉ hostOps0_6_W) :
    StableHlo.after (hostOps0_6 : List (HloOp τ sig (Elt F))) X (Proc.devRef .tc r) = X (Proc.devRef .tc r) :=
  StableHlo.after_of_writes_sub _ X hostOps0_6_writes h

/-- A buffer that the stretch `while0Ops0` does not write keeps its contents through it. -/
theorem keep_while0Ops0 (X : Valuation τ sig (Elt F)) {r : Ref sig .tc} (h : r ∉ while0Ops0_W) :
    StableHlo.after (while0Ops0 : List (HloOp τ sig (Elt F))) X (Proc.devRef .tc r) = X (Proc.devRef .tc r) :=
  StableHlo.after_of_writes_sub _ X while0Ops0_writes h

/-- A buffer that the stretch `while0Ops0_1` does not write keeps its contents through it. -/
theorem keep_while0Ops0_1 (X : Valuation τ sig (Elt F)) {r : Ref sig .tc} (h : r ∉ while0Ops0_1_W) :
    StableHlo.after (while0Ops0_1 : List (HloOp τ sig (Elt F))) X (Proc.devRef .tc r) = X (Proc.devRef .tc r) :=
  StableHlo.after_of_writes_sub _ X while0Ops0_1_writes h

/-- A buffer that the stretch `while0Ops0_2` does not write keeps its contents through it. -/
theorem keep_while0Ops0_2 (X : Valuation τ sig (Elt F)) {r : Ref sig .tc} (h : r ∉ while0Ops0_2_W) :
    StableHlo.after (while0Ops0_2 : List (HloOp τ sig (Elt F))) X (Proc.devRef .tc r) = X (Proc.devRef .tc r) :=
  StableHlo.after_of_writes_sub _ X while0Ops0_2_writes h

/-- A buffer that the stretch `while0Ops0_3` does not write keeps its contents through it. -/
theorem keep_while0Ops0_3 (X : Valuation τ sig (Elt F)) {r : Ref sig .tc} (h : r ∉ while0Ops0_3_W) :
    StableHlo.after (while0Ops0_3 : List (HloOp τ sig (Elt F))) X (Proc.devRef .tc r) = X (Proc.devRef .tc r) :=
  StableHlo.after_of_writes_sub _ X while0Ops0_3_writes h

/-- A buffer that the stretch `condOps` does not write keeps its contents through it. -/
theorem keep_condOps (X : Valuation τ sig (Elt F)) {r : Ref sig .tc} (h : r ∉ condOps_W) :
    StableHlo.after (condOps : List (HloOp τ sig (Elt F))) X (Proc.devRef .tc r) = X (Proc.devRef .tc r) :=
  StableHlo.after_of_writes_sub _ X condOps_writes h

variable (m : (ℓ : Loc nD τ sig) → Buf (Elt F) ℓ)

/-- No operation of the reference writes argument 0. -/
theorem entry_arg0 (c : Dev nD) : entryContents (preI (F := F)) m c (Proc.devRef .tc main_arg0) = m ((c : Thread nD τ).loc main_arg0) := by
  show afterL preI _ _ = _
  simp only [preI, afterL_cons, afterL_nil]
  exact (keep_hostOps0_6 _ (by decide)).trans <| (keep_hostOps0_5 _ (by decide)).trans <| (keep_hostOps0_4 _ (by decide)).trans <| (keep_hostOps0_3 _ (by decide)).trans <| (keep_hostOps0_2 _ (by decide)).trans <| (keep_hostOps0_1 _ (by decide)).trans <| (keep_hostOps0 _ (by decide)).trans <| rfl
theorem trip_arg0 (X : Valuation τ sig (Elt F)) : afterL bodyI (after condOps X) (Proc.devRef .tc main_arg0) = X (Proc.devRef .tc main_arg0) := by
  simp only [bodyI, afterL_cons, afterL_nil]
  exact (keep_while0Ops0_3 _ (by decide)).trans <| (keep_while0Ops0_2 _ (by decide)).trans <| (keep_while0Ops0_1 _ (by decide)).trans <| (keep_while0Ops0 _ (by decide)).trans <| (keep_condOps _ (by decide)).trans <| rfl
theorem atTrip_arg0 (c : Dev nD) : ∀ k, atTrip condOps bodyI (entryContents preI m) k c (Proc.devRef .tc main_arg0) = m ((c : Thread nD τ).loc main_arg0)
  | 0 => entry_arg0 m c
  | k + 1 => (trip_arg0 _).trans (atTrip_arg0 c k)
theorem final_arg0 (c : Dev nD) : finalContents condOps preI bodyI postI 2500 m c (Proc.devRef .tc main_arg0) = m ((c : Thread nD τ).loc main_arg0) := by
  show afterL postI (after condOps _) _ = _
  simp only [postI, afterL_cons, afterL_nil]
  exact (keep_hostOps0_18 _ (by decide)).trans <| (keep_hostOps0_17 _ (by decide)).trans <| (keep_hostOps0_16 _ (by decide)).trans <| (keep_hostOps0_15 _ (by decide)).trans <| (keep_hostOps0_14 _ (by decide)).trans <| (keep_hostOps0_13 _ (by decide)).trans <| (keep_hostOps0_12 _ (by decide)).trans <| (keep_hostOps0_11 _ (by decide)).trans <| (keep_hostOps0_10 _ (by decide)).trans <| (keep_hostOps0_9 _ (by decide)).trans <| (keep_hostOps0_8 _ (by decide)).trans <| (keep_hostOps0_7 _ (by decide)).trans <| (keep_condOps _ (by decide)).trans <| atTrip_arg0 m c 2500

/-- No operation of the reference writes argument 1. -/
theorem entry_arg1 (c : Dev nD) : entryContents (preI (F := F)) m c (Proc.devRef .tc main_arg1) = m ((c : Thread nD τ).loc main_arg1) := by
  show afterL preI _ _ = _
  simp only [preI, afterL_cons, afterL_nil]
  exact (keep_hostOps0_6 _ (by decide)).trans <| (keep_hostOps0_5 _ (by decide)).trans <| (keep_hostOps0_4 _ (by decide)).trans <| (keep_hostOps0_3 _ (by decide)).trans <| (keep_hostOps0_2 _ (by decide)).trans <| (keep_hostOps0_1 _ (by decide)).trans <| (keep_hostOps0 _ (by decide)).trans <| rfl
theorem trip_arg1 (X : Valuation τ sig (Elt F)) : afterL bodyI (after condOps X) (Proc.devRef .tc main_arg1) = X (Proc.devRef .tc main_arg1) := by
  simp only [bodyI, afterL_cons, afterL_nil]
  exact (keep_while0Ops0_3 _ (by decide)).trans <| (keep_while0Ops0_2 _ (by decide)).trans <| (keep_while0Ops0_1 _ (by decide)).trans <| (keep_while0Ops0 _ (by decide)).trans <| (keep_condOps _ (by decide)).trans <| rfl
theorem atTrip_arg1 (c : Dev nD) : ∀ k, atTrip condOps bodyI (entryContents preI m) k c (Proc.devRef .tc main_arg1) = m ((c : Thread nD τ).loc main_arg1)
  | 0 => entry_arg1 m c
  | k + 1 => (trip_arg1 _).trans (atTrip_arg1 c k)
theorem final_arg1 (c : Dev nD) : finalContents condOps preI bodyI postI 2500 m c (Proc.devRef .tc main_arg1) = m ((c : Thread nD τ).loc main_arg1) := by
  show afterL postI (after condOps _) _ = _
  simp only [postI, afterL_cons, afterL_nil]
  exact (keep_hostOps0_18 _ (by decide)).trans <| (keep_hostOps0_17 _ (by decide)).trans <| (keep_hostOps0_16 _ (by decide)).trans <| (keep_hostOps0_15 _ (by decide)).trans <| (keep_hostOps0_14 _ (by decide)).trans <| (keep_hostOps0_13 _ (by decide)).trans <| (keep_hostOps0_12 _ (by decide)).trans <| (keep_hostOps0_11 _ (by decide)).trans <| (keep_hostOps0_10 _ (by decide)).trans <| (keep_hostOps0_9 _ (by decide)).trans <| (keep_hostOps0_8 _ (by decide)).trans <| (keep_hostOps0_7 _ (by decide)).trans <| (keep_condOps _ (by decide)).trans <| atTrip_arg1 m c 2500

/-- The reference's run with its results named, its arguments as they were and every counter at zero. -/
theorem run_main (g : Dev nD → PrngReg) : θ_run (defs (F := F)) (onTc (τ := τ) (main (F := F))) ⟨m, fun _ => 0, g⟩
    (fun r => (∀ c : Dev nD, r.2.mem ((c.tc : Thread nD τ).loc main_v90) = finalContents condOps preI bodyI postI 2500 m c (Proc.devRef .tc main_v90)
      ∧ r.2.mem ((c.tc : Thread nD τ).loc main_v93) = finalContents condOps preI bodyI postI 2500 m c (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)) ∧ r.2.sem = fun _ => 0) :=
  (θ_run defs _ _).mono (fun r h => ⟨fun c => ⟨h c main_v90 rfl, h c main_v93 rfl, (h c main_arg0 rfl).trans (final_arg0 m c),
    (h c main_arg1 rfl).trans (final_arg1 m c)⟩, sem_eq_zero_of_no_sems (by decide) r.2⟩) (run_fold m g)

end Cert.ReferenceIdeal.Body

end
-- ==== Proof.TermsReferenceIdeal.lean ====
/-
  The reference's host stretches as terms: per stretch and result, the term its operations compose, and that the stretch
  leaves exactly that term.
-/
module

public import proofs.«01_k».proof.Proof.Gen.ReferenceIdeal.Run
public import proofs.«01_k».proof.Proof.Gen.ReferenceIdeal
public import Idealize.ShloMosaic.Lib.Pointwise

@[expose] public section

set_option maxRecDepth 16384

noncomputable section

namespace Cert.ReferenceIdeal.Body

open Cert.ReferenceIdeal Cert.ReferenceIdeal.Gen Cert.ReferenceIdeal.Value
open Idealize.ShloMosaic Idealize.ShloMosaic.TcCoe Idealize.ShloMosaic.StableHlo
open Idealize.SL.Sem

/-- The first values taken along the index array. -/
def confTerm (indices : IVec S8x2500 32) (arg0 : FVec Ideal S8x5000 .f32) : FVec Ideal S8x2500 .f32 :=
  have call0_c : IVec S_ 32 := constantI S_ 32 0#32
  have call0_v0 : IVec S8x2500 32 := (broadcastInDim S8x2500 ![] bcast_S_S8x2500) call0_c
  have call0_v1 : IVec S8x2500 1 := (cmpi .slt) indices call0_v0
  have call0_c_0 : IVec S_ 32 := constantI S_ 32 5000#32
  have call0_v2 : IVec S8x2500 32 := (broadcastInDim S8x2500 ![] bcast_S_S8x2500) call0_c_0
  have call0_v3 : IVec S8x2500 32 := (addi) indices call0_v2
  have call0_v4 : IVec S8x2500 32 := (select) call0_v1 call0_v3 indices
  have call0_v5 : IVec S8x2500x1 32 := shapeCast S8x2500x1 call0_v4 shapeCasts_S8x2500_S8x2500x1
  have call0_c_2 : IVec S_ 32 := constantI S_ 32 0#32
  have call0_v6 : IVec S8x2500x1 32 := (broadcastInDim S8x2500x1 ![] bcast_S_S8x2500x1) call0_c_2
  have call0_v7 : IVec S8x2500x1 1 := (cmpi .sge) call0_v5 call0_v6
  have call0_c_1 : IVec S1 32 := constantI S1 32 4999#32
  have call0_v8 : IVec S1x1x1 32 := (broadcastInDim S1x1x1 ![2] bcast_S1_S1x1x1_2) call0_c_1
  have call0_v9 : IVec S8x2500x1 32 := (broadcastInDim S8x2500x1 ![0, 1, 2] bcast_S1x1x1_S8x2500x1_0_1_2) call0_v8
  have call0_v10 : IVec S8x2500x1 1 := (cmpi .sle) call0_v5 call0_v9
  have call0_v11 : IVec S8x2500x1 1 := (andi) call0_v7 call0_v10
  have call0_c_3 : IVec S_ 1 := constantI S_ 1 1#1
  have call0_v12 : IVec S8x2500 1 := (fun x v => Host.reduce IntOp.andi x v reducesTo_S8x2500x1_S8x2500_d2 h_S_) call0_v11 call0_c_3
  have call0_v13 : FVec Ideal S8x2500 .f32 := (fun x i => Host.gather gather_S8x5000_S8x2500x1_S8x2500_n_1_0_0_1_2_11 x i) arg0 call0_v5
  have call0_cst : FVec Ideal S_ .f32 := constant S_ .f32 0x7FC00000#32
  have call0_v14 : FVec Ideal S8x2500 .f32 := (broadcastInDim S8x2500 ![] bcast_S_S8x2500) call0_cst
  have v0 : FVec Ideal S8x2500 .f32 := (select) call0_v12 call0_v13 call0_v14
  v0

set_option maxRecDepth 100000 in
/-- `main_v0` after its stretch is that term of what the stretch read. -/
theorem confTerm_eq (V : Valuation τ sig (Elt Ideal)) :
    after (hostOps0_1 : List (HloOp τ sig (Elt Ideal))) V (Proc.devRef .tc main_v0) = confTerm (V (Proc.devRef .tc main_indices)) (V (Proc.devRef .tc main_arg0)) := by
  after_results
  rfl

/-- The index array spread over the four coordinates. -/
def wideTerm (indices : IVec S8x2500 32) : IVec S8x2500x4 32 :=
  have v1 : IVec S8x2500x1 32 := (broadcastInDim S8x2500x1 ![0, 1] bcast_S8x2500_S8x2500x1_0_1) indices
  have v2 : IVec S8x2500x4 32 := (broadcastInDim S8x2500x4 ![0, 1, 2] bcast_S8x2500x1_S8x2500x4_0_1_2) v1
  v2

set_option maxRecDepth 100000 in
/-- `main_v2` after its stretch is that term of what the stretch read. -/
theorem wideTerm_eq (V : Valuation τ sig (Elt Ideal)) :
    after (hostOps0_2 : List (HloOp τ sig (Elt Ideal))) V (Proc.devRef .tc main_v2) = wideTerm (V (Proc.devRef .tc main_indices)) := by
  after_results
  rfl

/-- The boxes taken along the index array. -/
def boxTerm (v2 : IVec S8x2500x4 32) (arg1 : FVec Ideal S8x5000x4 .f32) : FVec Ideal S8x2500x4 .f32 :=
  have call1_c : IVec S_ 32 := constantI S_ 32 0#32
  have call1_v0 : IVec S8x2500x4 32 := (broadcastInDim S8x2500x4 ![] bcast_S_S8x2500x4) call1_c
  have call1_v1 : IVec S8x2500x4 1 := (cmpi .slt) v2 call1_v0
  have call1_c_0 : IVec S_ 32 := constantI S_ 32 5000#32
  have call1_v2 : IVec S8x2500x4 32 := (broadcastInDim S8x2500x4 ![] bcast_S_S8x2500x4) call1_c_0
  have call1_v3 : IVec S8x2500x4 32 := (addi) v2 call1_v2
  have call1_v4 : IVec S8x2500x4 32 := (select) call1_v1 call1_v3 v2
  have call1_v5 : IVec S8x2500x4x1 32 := shapeCast S8x2500x4x1 call1_v4 shapeCasts_S8x2500x4_S8x2500x4x1
  have call1_c_2 : IVec S_ 32 := constantI S_ 32 0#32
  have call1_v6 : IVec S8x2500x4x1 32 := (broadcastInDim S8x2500x4x1 ![] bcast_S_S8x2500x4x1) call1_c_2
  have call1_v7 : IVec S8x2500x4x1 1 := (cmpi .sge) call1_v5 call1_v6
  have call1_c_1 : IVec S1 32 := constantI S1 32 4999#32
  have call1_v8 : IVec S1x1x1x1 32 := (broadcastInDim S1x1x1x1 ![3] bcast_S1_S1x1x1x1_3) call1_c_1
  have call1_v9 : IVec S8x2500x4x1 32 := (broadcastInDim S8x2500x4x1 ![0, 1, 2, 3] bcast_S1x1x1x1_S8x2500x4x1_0_1_2_3) call1_v8
  have call1_v10 : IVec S8x2500x4x1 1 := (cmpi .sle) call1_v5 call1_v9
  have call1_v11 : IVec S8x2500x4x1 1 := (andi) call1_v7 call1_v10
  have call1_c_3 : IVec S_ 1 := constantI S_ 1 1#1
  have call1_v12 : IVec S8x2500x4 1 := (fun x v => Host.reduce IntOp.andi x v reducesTo_S8x2500x4x1_S8x2500x4_d3 h_S_) call1_v11 call1_c_3
  have call1_v13 : FVec Ideal S8x2500x4 .f32 := (fun x i => Host.gather gather_S8x5000x4_S8x2500x4x1_S8x2500x4_n_1_02_02_1_3_111 x i) arg1 call1_v5
  have call1_cst : FVec Ideal S_ .f32 := constant S_ .f32 0x7FC00000#32
  have call1_v14 : FVec Ideal S8x2500x4 .f32 := (broadcastInDim S8x2500x4 ![] bcast_S_S8x2500x4) call1_cst
  have v3 : FVec Ideal S8x2500x4 .f32 := (select) call1_v12 call1_v13 call1_v14
  v3

set_option maxRecDepth 100000 in
/-- `main_v3` after its stretch is that term of what the stretch read. -/
theorem boxTerm_eq (V : Valuation τ sig (Elt Ideal)) :
    after (hostOps0_3 : List (HloOp τ sig (Elt Ideal))) V (Proc.devRef .tc main_v3) = boxTerm (V (Proc.devRef .tc main_v2)) (V (Proc.devRef .tc main_arg1)) := by
  after_results
  rfl

/-- Whether the union is positive, for every pair of boxes. -/
def posTerm (v3 : FVec Ideal S8x2500x4 .f32) : IVec S8x2500x2500 1 :=
  have v8 : FVec Ideal S8x2500x1 .f32 := (extractStridedSlice S8x2500x1 ![0, 0, 2] · slices_S8x2500x4_S8x2500x1_0_0_2) v3
  have v9 : FVec Ideal S8x2500 .f32 := shapeCast S8x2500 v8 shapeCasts_S8x2500x1_S8x2500
  have v4 : FVec Ideal S8x2500x1 .f32 := (extractStridedSlice S8x2500x1 ![0, 0, 0] · slices_S8x2500x4_S8x2500x1_0_0_0) v3
  have v5 : FVec Ideal S8x2500 .f32 := shapeCast S8x2500 v4 shapeCasts_S8x2500x1_S8x2500
  have v12 : FVec Ideal S8x2500 .f32 := (subf) v9 v5
  have v10 : FVec Ideal S8x2500x1 .f32 := (extractStridedSlice S8x2500x1 ![0, 0, 3] · slices_S8x2500x4_S8x2500x1_0_0_3) v3
  have v11 : FVec Ideal S8x2500 .f32 := shapeCast S8x2500 v10 shapeCasts_S8x2500x1_S8x2500
  have v6 : FVec Ideal S8x2500x1 .f32 := (extractStridedSlice S8x2500x1 ![0, 0, 1] · slices_S8x2500x4_S8x2500x1_0_0_1) v3
  have v7 : FVec Ideal S8x2500 .f32 := shapeCast S8x2500 v6 shapeCasts_S8x2500x1_S8x2500
  have v13 : FVec Ideal S8x2500 .f32 := (subf) v11 v7
  have v14 : FVec Ideal S8x2500 .f32 := (mulf) v12 v13
  have v42 : FVec Ideal S8x2500x1 .f32 := (broadcastInDim S8x2500x1 ![0, 1] bcast_S8x2500_S8x2500x1_0_1) v14
  have v44 : FVec Ideal S8x2500x2500 .f32 := (broadcastInDim S8x2500x2500 ![0, 1, 2] bcast_S8x2500x1_S8x2500x2500_0_1_2) v42
  have v43 : FVec Ideal S8x1x2500 .f32 := (broadcastInDim S8x1x2500 ![0, 2] bcast_S8x2500_S8x1x2500_0_2) v14
  have v45 : FVec Ideal S8x2500x2500 .f32 := (broadcastInDim S8x2500x2500 ![0, 1, 2] bcast_S8x1x2500_S8x2500x2500_0_1_2) v43
  have v46 : FVec Ideal S8x2500x2500 .f32 := (addf) v44 v45
  have v25 : FVec Ideal S8x2500x1 .f32 := (broadcastInDim S8x2500x1 ![0, 1] bcast_S8x2500_S8x2500x1_0_1) v9
  have v27 : FVec Ideal S8x2500x2500 .f32 := (broadcastInDim S8x2500x2500 ![0, 1, 2] bcast_S8x2500x1_S8x2500x2500_0_1_2) v25
  have v26 : FVec Ideal S8x1x2500 .f32 := (broadcastInDim S8x1x2500 ![0, 2] bcast_S8x2500_S8x1x2500_0_2) v9
  have v28 : FVec Ideal S8x2500x2500 .f32 := (broadcastInDim S8x2500x2500 ![0, 1, 2] bcast_S8x1x2500_S8x2500x2500_0_1_2) v26
  have v29 : FVec Ideal S8x2500x2500 .f32 := (minimumf) v27 v28
  have v15 : FVec Ideal S8x2500x1 .f32 := (broadcastInDim S8x2500x1 ![0, 1] bcast_S8x2500_S8x2500x1_0_1) v5
  have v17 : FVec Ideal S8x2500x2500 .f32 := (broadcastInDim S8x2500x2500 ![0, 1, 2] bcast_S8x2500x1_S8x2500x2500_0_1_2) v15
  have v16 : FVec Ideal S8x1x2500 .f32 := (broadcastInDim S8x1x2500 ![0, 2] bcast_S8x2500_S8x1x2500_0_2) v5
  have v18 : FVec Ideal S8x2500x2500 .f32 := (broadcastInDim S8x2500x2500 ![0, 1, 2] bcast_S8x1x2500_S8x2500x2500_0_1_2) v16
  have v19 : FVec Ideal S8x2500x2500 .f32 := (maximumf) v17 v18
  have v35 : FVec Ideal S8x2500x2500 .f32 := (subf) v29 v19
  have cst : FVec Ideal S_ .f32 := constant S_ .f32 0x00000000#32
  have v36 : FVec Ideal S8x2500x2500 .f32 := (broadcastInDim S8x2500x2500 ![] bcast_S_S8x2500x2500) cst
  have v37 : FVec Ideal S8x2500x2500 .f32 := (maximumf) v35 v36
  have v30 : FVec Ideal S8x2500x1 .f32 := (broadcastInDim S8x2500x1 ![0, 1] bcast_S8x2500_S8x2500x1_0_1) v11
  have v32 : FVec Ideal S8x2500x2500 .f32 := (broadcastInDim S8x2500x2500 ![0, 1, 2] bcast_S8x2500x1_S8x2500x2500_0_1_2) v30
  have v31 : FVec Ideal S8x1x2500 .f32 := (broadcastInDim S8x1x2500 ![0, 2] bcast_S8x2500_S8x1x2500_0_2) v11
  have v33 : FVec Ideal S8x2500x2500 .f32 := (broadcastInDim S8x2500x2500 ![0, 1, 2] bcast_S8x1x2500_S8x2500x2500_0_1_2) v31
  have v34 : FVec Ideal S8x2500x2500 .f32 := (minimumf) v32 v33
  have v20 : FVec Ideal S8x2500x1 .f32 := (broadcastInDim S8x2500x1 ![0, 1] bcast_S8x2500_S8x2500x1_0_1) v7
  have v22 : FVec Ideal S8x2500x2500 .f32 := (broadcastInDim S8x2500x2500 ![0, 1, 2] bcast_S8x2500x1_S8x2500x2500_0_1_2) v20
  have v21 : FVec Ideal S8x1x2500 .f32 := (broadcastInDim S8x1x2500 ![0, 2] bcast_S8x2500_S8x1x2500_0_2) v7
  have v23 : FVec Ideal S8x2500x2500 .f32 := (broadcastInDim S8x2500x2500 ![0, 1, 2] bcast_S8x1x2500_S8x2500x2500_0_1_2) v21
  have v24 : FVec Ideal S8x2500x2500 .f32 := (maximumf) v22 v23
  have v38 : FVec Ideal S8x2500x2500 .f32 := (subf) v34 v24
  have cst_0 : FVec Ideal S_ .f32 := constant S_ .f32 0x00000000#32
  have v39 : FVec Ideal S8x2500x2500 .f32 := (broadcastInDim S8x2500x2500 ![] bcast_S_S8x2500x2500) cst_0
  have v40 : FVec Ideal S8x2500x2500 .f32 := (maximumf) v38 v39
  have v41 : FVec Ideal S8x2500x2500 .f32 := (mulf) v37 v40
  have v47 : FVec Ideal S8x2500x2500 .f32 := (subf) v46 v41
  have cst_1 : FVec Ideal S_ .f32 := constant S_ .f32 0x00000000#32
  have v48 : FVec Ideal S8x2500x2500 .f32 := (broadcastInDim S8x2500x2500 ![] bcast_S_S8x2500x2500) cst_1
  have v49 : IVec S8x2500x2500 1 := (cmpf .ogt) v47 v48
  v49

set_option maxRecDepth 100000 in
/-- `main_v49` after its stretch is that term of what the stretch read. -/
theorem posTerm_eq (V : Valuation τ sig (Elt Ideal)) :
    after (hostOps0_4 : List (HloOp τ sig (Elt Ideal))) V (Proc.devRef .tc main_v49) = posTerm (V (Proc.devRef .tc main_v3)) := by
  after_results
  rfl

/-- Intersection over union for every pair of boxes, before the guard. -/
def quotTerm (v3 : FVec Ideal S8x2500x4 .f32) : FVec Ideal S8x2500x2500 .f32 :=
  have v8 : FVec Ideal S8x2500x1 .f32 := (extractStridedSlice S8x2500x1 ![0, 0, 2] · slices_S8x2500x4_S8x2500x1_0_0_2) v3
  have v9 : FVec Ideal S8x2500 .f32 := shapeCast S8x2500 v8 shapeCasts_S8x2500x1_S8x2500
  have v25 : FVec Ideal S8x2500x1 .f32 := (broadcastInDim S8x2500x1 ![0, 1] bcast_S8x2500_S8x2500x1_0_1) v9
  have v27 : FVec Ideal S8x2500x2500 .f32 := (broadcastInDim S8x2500x2500 ![0, 1, 2] bcast_S8x2500x1_S8x2500x2500_0_1_2) v25
  have v26 : FVec Ideal S8x1x2500 .f32 := (broadcastInDim S8x1x2500 ![0, 2] bcast_S8x2500_S8x1x2500_0_2) v9
  have v28 : FVec Ideal S8x2500x2500 .f32 := (broadcastInDim S8x2500x2500 ![0, 1, 2] bcast_S8x1x2500_S8x2500x2500_0_1_2) v26
  have v29 : FVec Ideal S8x2500x2500 .f32 := (minimumf) v27 v28
  have v4 : FVec Ideal S8x2500x1 .f32 := (extractStridedSlice S8x2500x1 ![0, 0, 0] · slices_S8x2500x4_S8x2500x1_0_0_0) v3
  have v5 : FVec Ideal S8x2500 .f32 := shapeCast S8x2500 v4 shapeCasts_S8x2500x1_S8x2500
  have v15 : FVec Ideal S8x2500x1 .f32 := (broadcastInDim S8x2500x1 ![0, 1] bcast_S8x2500_S8x2500x1_0_1) v5
  have v17 : FVec Ideal S8x2500x2500 .f32 := (broadcastInDim S8x2500x2500 ![0, 1, 2] bcast_S8x2500x1_S8x2500x2500_0_1_2) v15
  have v16 : FVec Ideal S8x1x2500 .f32 := (broadcastInDim S8x1x2500 ![0, 2] bcast_S8x2500_S8x1x2500_0_2) v5
  have v18 : FVec Ideal S8x2500x2500 .f32 := (broadcastInDim S8x2500x2500 ![0, 1, 2] bcast_S8x1x2500_S8x2500x2500_0_1_2) v16
  have v19 : FVec Ideal S8x2500x2500 .f32 := (maximumf) v17 v18
  have v35 : FVec Ideal S8x2500x2500 .f32 := (subf) v29 v19
  have cst : FVec Ideal S_ .f32 := constant S_ .f32 0x00000000#32
  have v36 : FVec Ideal S8x2500x2500 .f32 := (broadcastInDim S8x2500x2500 ![] bcast_S_S8x2500x2500) cst
  have v37 : FVec Ideal S8x2500x2500 .f32 := (maximumf) v35 v36
  have v10 : FVec Ideal S8x2500x1 .f32 := (extractStridedSlice S8x2500x1 ![0, 0, 3] · slices_S8x2500x4_S8x2500x1_0_0_3) v3
  have v11 : FVec Ideal S8x2500 .f32 := shapeCast S8x2500 v10 shapeCasts_S8x2500x1_S8x2500
  have v30 : FVec Ideal S8x2500x1 .f32 := (broadcastInDim S8x2500x1 ![0, 1] bcast_S8x2500_S8x2500x1_0_1) v11
  have v32 : FVec Ideal S8x2500x2500 .f32 := (broadcastInDim S8x2500x2500 ![0, 1, 2] bcast_S8x2500x1_S8x2500x2500_0_1_2) v30
  have v31 : FVec Ideal S8x1x2500 .f32 := (broadcastInDim S8x1x2500 ![0, 2] bcast_S8x2500_S8x1x2500_0_2) v11
  have v33 : FVec Ideal S8x2500x2500 .f32 := (broadcastInDim S8x2500x2500 ![0, 1, 2] bcast_S8x1x2500_S8x2500x2500_0_1_2) v31
  have v34 : FVec Ideal S8x2500x2500 .f32 := (minimumf) v32 v33
  have v6 : FVec Ideal S8x2500x1 .f32 := (extractStridedSlice S8x2500x1 ![0, 0, 1] · slices_S8x2500x4_S8x2500x1_0_0_1) v3
  have v7 : FVec Ideal S8x2500 .f32 := shapeCast S8x2500 v6 shapeCasts_S8x2500x1_S8x2500
  have v20 : FVec Ideal S8x2500x1 .f32 := (broadcastInDim S8x2500x1 ![0, 1] bcast_S8x2500_S8x2500x1_0_1) v7
  have v22 : FVec Ideal S8x2500x2500 .f32 := (broadcastInDim S8x2500x2500 ![0, 1, 2] bcast_S8x2500x1_S8x2500x2500_0_1_2) v20
  have v21 : FVec Ideal S8x1x2500 .f32 := (broadcastInDim S8x1x2500 ![0, 2] bcast_S8x2500_S8x1x2500_0_2) v7
  have v23 : FVec Ideal S8x2500x2500 .f32 := (broadcastInDim S8x2500x2500 ![0, 1, 2] bcast_S8x1x2500_S8x2500x2500_0_1_2) v21
  have v24 : FVec Ideal S8x2500x2500 .f32 := (maximumf) v22 v23
  have v38 : FVec Ideal S8x2500x2500 .f32 := (subf) v34 v24
  have cst_0 : FVec Ideal S_ .f32 := constant S_ .f32 0x00000000#32
  have v39 : FVec Ideal S8x2500x2500 .f32 := (broadcastInDim S8x2500x2500 ![] bcast_S_S8x2500x2500) cst_0
  have v40 : FVec Ideal S8x2500x2500 .f32 := (maximumf) v38 v39
  have v41 : FVec Ideal S8x2500x2500 .f32 := (mulf) v37 v40
  have v12 : FVec Ideal S8x2500 .f32 := (subf) v9 v5
  have v13 : FVec Ideal S8x2500 .f32 := (subf) v11 v7
  have v14 : FVec Ideal S8x2500 .f32 := (mulf) v12 v13
  have v42 : FVec Ideal S8x2500x1 .f32 := (broadcastInDim S8x2500x1 ![0, 1] bcast_S8x2500_S8x2500x1_0_1) v14
  have v44 : FVec Ideal S8x2500x2500 .f32 := (broadcastInDim S8x2500x2500 ![0, 1, 2] bcast_S8x2500x1_S8x2500x2500_0_1_2) v42
  have v43 : FVec Ideal S8x1x2500 .f32 := (broadcastInDim S8x1x2500 ![0, 2] bcast_S8x2500_S8x1x2500_0_2) v14
  have v45 : FVec Ideal S8x2500x2500 .f32 := (broadcastInDim S8x2500x2500 ![0, 1, 2] bcast_S8x1x2500_S8x2500x2500_0_1_2) v43
  have v46 : FVec Ideal S8x2500x2500 .f32 := (addf) v44 v45
  have v47 : FVec Ideal S8x2500x2500 .f32 := (subf) v46 v41
  have v50 : FVec Ideal S8x2500x2500 .f32 := (Host.divf) v41 v47
  v50

set_option maxRecDepth 100000 in
/-- `main_v50` after its stretch is that term of what the stretch read. -/
theorem quotTerm_eq (V : Valuation τ sig (Elt Ideal)) :
    after (hostOps0_4 : List (HloOp τ sig (Elt Ideal))) V (Proc.devRef .tc main_v50) = quotTerm (V (Proc.devRef .tc main_v3)) := by
  after_results
  rfl

/-- The guard value. -/
def zeroTerm  : FVec Ideal S_ .f32 :=
  have cst_2 : FVec Ideal S_ .f32 := constant S_ .f32 0x00000000#32
  cst_2

set_option maxRecDepth 100000 in
/-- `main_cst_2` after its stretch is that term of what the stretch read. -/
theorem zeroTerm_eq (V : Valuation τ sig (Elt Ideal)) :
    after (hostOps0_4 : List (HloOp τ sig (Elt Ideal))) V (Proc.devRef .tc main_cst_2) = zeroTerm  := by
  after_results
  rfl

/-- Intersection over union with its guard. -/
def iouTerm (v49 : IVec S8x2500x2500 1) (v50 : FVec Ideal S8x2500x2500 .f32) (cst_2 : FVec Ideal S_ .f32) : FVec Ideal S8x2500x2500 .f32 :=
  have call2_v0 : FVec Ideal S_ .f32 := (id) cst_2
  have call2_v1 : FVec Ideal S8x2500x2500 .f32 := (broadcastInDim S8x2500x2500 ![] bcast_S_S8x2500x2500) call2_v0
  have v51 : FVec Ideal S8x2500x2500 .f32 := (select) v49 v50 call2_v1
  v51

set_option maxRecDepth 100000 in
/-- `main_v51` after its stretch is that term of what the stretch read. -/
theorem iouTerm_eq (V : Valuation τ sig (Elt Ideal)) :
    after (hostOps0_5 : List (HloOp τ sig (Elt Ideal))) V (Proc.devRef .tc main_v51) = iouTerm (V (Proc.devRef .tc main_v49)) (V (Proc.devRef .tc main_v50)) (V (Proc.devRef .tc main_cst_2)) := by
  after_results
  rfl

/-- The positions. -/
def arTerm  : IVec S2500 32 :=
  have v52 : IVec S2500 32 := iotaInDim S2500 32 0
  v52

set_option maxRecDepth 100000 in
/-- `main_v52` after its stretch is that term of what the stretch read. -/
theorem arTerm_eq (V : Valuation τ sig (Elt Ideal)) :
    after (hostOps0_6 : List (HloOp τ sig (Elt Ideal))) V (Proc.devRef .tc main_v52) = arTerm  := by
  after_results
  rfl

/-- The overlap table at the loop. -/
def ent0Term (v51 : FVec Ideal S8x2500x2500 .f32) : FVec Ideal S8x2500x2500 .f32 :=
  have v54_0 := (id) v51
  v54_0

set_option maxRecDepth 100000 in
/-- `main_v54_0` after its stretch is that term of what the stretch read. -/
theorem ent0Term_eq (V : Valuation τ sig (Elt Ideal)) :
    after (hostOps0_6 : List (HloOp τ sig (Elt Ideal))) V (Proc.devRef .tc main_v54_0) = ent0Term (V (Proc.devRef .tc main_v51)) := by
  after_results
  rfl

/-- The positions at the loop. -/
def ent1Term  : IVec S2500 32 :=
  have v52 : IVec S2500 32 := iotaInDim S2500 32 0
  have v54_1 := (id) v52
  v54_1

set_option maxRecDepth 100000 in
/-- `main_v54_1` after its stretch is that term of what the stretch read. -/
theorem ent1Term_eq (V : Valuation τ sig (Elt Ideal)) :
    after (hostOps0_6 : List (HloOp τ sig (Elt Ideal))) V (Proc.devRef .tc main_v54_1) = ent1Term  := by
  after_results
  rfl

/-- The first turn. -/
def ent3Term  : IVec S_ 32 :=
  have c_3 : IVec S_ 32 := constantI S_ 32 0#32
  have v54_3 := (id) c_3
  v54_3

set_option maxRecDepth 100000 in
/-- `main_v54_3` after its stretch is that term of what the stretch read. -/
theorem ent3Term_eq (V : Valuation τ sig (Elt Ideal)) :
    after (hostOps0_6 : List (HloOp τ sig (Elt Ideal))) V (Proc.devRef .tc main_v54_3) = ent3Term  := by
  after_results
  rfl

/-- Everything alive. -/
def ent4Term  : IVec S8x2500 1 :=
  have c : IVec S_ 1 := constantI S_ 1 1#1
  have v53 : IVec S8x2500 1 := (broadcastInDim S8x2500 ![] bcast_S_S8x2500) c
  have v54_4 := (id) v53
  v54_4

set_option maxRecDepth 100000 in
/-- `main_v54_4` after its stretch is that term of what the stretch read. -/
theorem ent4Term_eq (V : Valuation τ sig (Elt Ideal)) :
    after (hostOps0_6 : List (HloOp τ sig (Elt Ideal))) V (Proc.devRef .tc main_v54_4) = ent4Term  := by
  after_results
  rfl

/-- The key of a removed box. -/
def bigTerm  : IVec S_ 32 :=
  have c_5 : IVec S_ 32 := constantI S_ 32 2500#32
  c_5

set_option maxRecDepth 100000 in
/-- `main_c_5` after its stretch is that term of what the stretch read. -/
theorem bigTerm_eq (V : Valuation τ sig (Elt Ideal)) :
    after (hostOps0_7 : List (HloOp τ sig (Elt Ideal))) V (Proc.devRef .tc main_c_5) = bigTerm  := by
  after_results
  rfl

/-- The keys to sort. -/
def keyTerm (v54_4 : IVec S8x2500 1) (v52 : IVec S2500 32) (c_5 : IVec S_ 32) : IVec S8x2500 32 :=
  have call5_v1 : IVec S8x2500 32 := (broadcastInDim S8x2500 ![1] bcast_S2500_S8x2500_1) v52
  have call5_v0 : IVec S_ 32 := (id) c_5
  have call5_v2 : IVec S8x2500 32 := (broadcastInDim S8x2500 ![] bcast_S_S8x2500) call5_v0
  have v55 : IVec S8x2500 32 := (select) v54_4 call5_v1 call5_v2
  v55

set_option maxRecDepth 100000 in
/-- `main_v55` after its stretch is that term of what the stretch read. -/
theorem keyTerm_eq (V : Valuation τ sig (Elt Ideal)) :
    after (hostOps0_8 : List (HloOp τ sig (Elt Ideal))) V (Proc.devRef .tc main_v55) = keyTerm (V (Proc.devRef .tc main_v54_4)) (V (Proc.devRef .tc main_v52)) (V (Proc.devRef .tc main_c_5)) := by
  after_results
  rfl

/-- The sorted keys. -/
def sortTerm (v55 : IVec S8x2500 32) : IVec S8x2500 32 :=
  have v56 : IVec S8x2500 32 := (fun x => Host.sort S8x2500 1 comparator_i32_d1 x) v55
  v56

set_option maxRecDepth 100000 in
/-- `main_v56` after its stretch is that term of what the stretch read. -/
theorem sortTerm_eq (V : Valuation τ sig (Elt Ideal)) :
    after (hostOps0_9 : List (HloOp τ sig (Elt Ideal))) V (Proc.devRef .tc main_v56) = sortTerm (V (Proc.devRef .tc main_v55)) := by
  after_results
  rfl

/-- How many boxes are selected. -/
def numTerm (v54_4 : IVec S8x2500 1) : IVec S8x1 32 :=
  have v57 : IVec S8x2500 32 := (extui 32 · natLt_1_32) v54_4
  have c_6 : IVec S_ 32 := constantI S_ 32 0#32
  have v58 : IVec S8 32 := (fun x v => Host.reduce IntOp.addi x v reducesTo_S8x2500_S8_d1 h_S_) v57 c_6
  have v59 : IVec S8x1 32 := (broadcastInDim S8x1 ![0] bcast_S8_S8x1_0) v58
  have c_7 : IVec S_ 32 := constantI S_ 32 200#32
  have v60 : IVec S8x1 32 := (broadcastInDim S8x1 ![] bcast_S_S8x1) c_7
  have v61 : IVec S8x1 32 := (minsi) v59 v60
  v61

set_option maxRecDepth 100000 in
/-- `main_v61` after its stretch is that term of what the stretch read. -/
theorem numTerm_eq (V : Valuation τ sig (Elt Ideal)) :
    after (hostOps0_10 : List (HloOp τ sig (Elt Ideal))) V (Proc.devRef .tc main_v61) = numTerm (V (Proc.devRef .tc main_v54_4)) := by
  after_results
  rfl

/-- The first keys. -/
def frontTerm (v56 : IVec S8x2500 32) : IVec S8x200 32 :=
  have v62 : IVec S8x200 32 := (extractStridedSlice S8x200 ![0, 0] · slices_S8x2500_S8x200_0_0) v56
  v62

set_option maxRecDepth 100000 in
/-- `main_v62` after its stretch is that term of what the stretch read. -/
theorem frontTerm_eq (V : Valuation τ sig (Elt Ideal)) :
    after (hostOps0_10 : List (HloOp τ sig (Elt Ideal))) V (Proc.devRef .tc main_v62) = frontTerm (V (Proc.devRef .tc main_v56)) := by
  after_results
  rfl

/-- The output positions. -/
def laneTerm  : IVec S200 32 :=
  have v63 : IVec S200 32 := iotaInDim S200 32 0
  v63

set_option maxRecDepth 100000 in
/-- `main_v63` after its stretch is that term of what the stretch read. -/
theorem laneTerm_eq (V : Valuation τ sig (Elt Ideal)) :
    after (hostOps0_10 : List (HloOp τ sig (Elt Ideal))) V (Proc.devRef .tc main_v63) = laneTerm  := by
  after_results
  rfl

/-- Which output positions hold a survivor. -/
def liveTerm (v54_4 : IVec S8x2500 1) : IVec S8x200 1 :=
  have v63 : IVec S200 32 := iotaInDim S200 32 0
  have v64 : IVec S1x200 32 := (broadcastInDim S1x200 ![1] bcast_S200_S1x200_1) v63
  have v65 : IVec S8x200 32 := (broadcastInDim S8x200 ![0, 1] bcast_S1x200_S8x200_0_1) v64
  have v57 : IVec S8x2500 32 := (extui 32 · natLt_1_32) v54_4
  have c_6 : IVec S_ 32 := constantI S_ 32 0#32
  have v58 : IVec S8 32 := (fun x v => Host.reduce IntOp.addi x v reducesTo_S8x2500_S8_d1 h_S_) v57 c_6
  have v59 : IVec S8x1 32 := (broadcastInDim S8x1 ![0] bcast_S8_S8x1_0) v58
  have c_7 : IVec S_ 32 := constantI S_ 32 200#32
  have v60 : IVec S8x1 32 := (broadcastInDim S8x1 ![] bcast_S_S8x1) c_7
  have v61 : IVec S8x1 32 := (minsi) v59 v60
  have v66 : IVec S8x200 32 := (broadcastInDim S8x200 ![0, 1] bcast_S8x1_S8x200_0_1) v61
  have v67 : IVec S8x200 1 := (cmpi .slt) v65 v66
  v67

set_option maxRecDepth 100000 in
/-- `main_v67` after its stretch is that term of what the stretch read. -/
theorem liveTerm_eq (V : Valuation τ sig (Elt Ideal)) :
    after (hostOps0_10 : List (HloOp τ sig (Elt Ideal))) V (Proc.devRef .tc main_v67) = liveTerm (V (Proc.devRef .tc main_v54_4)) := by
  after_results
  rfl

/-- The filler. -/
def zero8Term  : IVec S_ 32 :=
  have c_8 : IVec S_ 32 := constantI S_ 32 0#32
  c_8

set_option maxRecDepth 100000 in
/-- `main_c_8` after its stretch is that term of what the stretch read. -/
theorem zero8Term_eq (V : Valuation τ sig (Elt Ideal)) :
    after (hostOps0_10 : List (HloOp τ sig (Elt Ideal))) V (Proc.devRef .tc main_c_8) = zero8Term  := by
  after_results
  rfl

/-- The survivors, the filler elsewhere. -/
def maskTerm (v67 : IVec S8x200 1) (v62 : IVec S8x200 32) (c_8 : IVec S_ 32) : IVec S8x200 32 :=
  have call7_v0 : IVec S_ 32 := (id) c_8
  have call7_v1 : IVec S8x200 32 := (broadcastInDim S8x200 ![] bcast_S_S8x200) call7_v0
  have v68 : IVec S8x200 32 := (select) v67 v62 call7_v1
  v68

set_option maxRecDepth 100000 in
/-- `main_v68` after its stretch is that term of what the stretch read. -/
theorem maskTerm_eq (V : Valuation τ sig (Elt Ideal)) :
    after (hostOps0_11 : List (HloOp τ sig (Elt Ideal))) V (Proc.devRef .tc main_v68) = maskTerm (V (Proc.devRef .tc main_v67)) (V (Proc.devRef .tc main_v62)) (V (Proc.devRef .tc main_c_8)) := by
  after_results
  rfl

/-- Which output positions hold a survivor, again. -/
def live2Term (v63 : IVec S200 32) (v61 : IVec S8x1 32) : IVec S8x200 1 :=
  have v78 : IVec S1x200 32 := (broadcastInDim S1x200 ![1] bcast_S200_S1x200_1) v63
  have v79 : IVec S8x200 32 := (broadcastInDim S8x200 ![0, 1] bcast_S1x200_S8x200_0_1) v78
  have v80 : IVec S8x200 32 := (broadcastInDim S8x200 ![0, 1] bcast_S8x1_S8x200_0_1) v61
  have v81 : IVec S8x200 1 := (cmpi .slt) v79 v80
  v81

set_option maxRecDepth 100000 in
/-- `main_v81` after its stretch is that term of what the stretch read. -/
theorem live2Term_eq (V : Valuation τ sig (Elt Ideal)) :
    after (hostOps0_12 : List (HloOp τ sig (Elt Ideal))) V (Proc.devRef .tc main_v81) = live2Term (V (Proc.devRef .tc main_v63)) (V (Proc.devRef .tc main_v61)) := by
  after_results
  rfl

/-- What the remaining positions hold. -/
def fillTerm (v61 : IVec S8x1 32) (v68 : IVec S8x200 32) (v63 : IVec S200 32) : IVec S8x200 32 :=
  have c_11 : IVec S_ 32 := constantI S_ 32 2500#32
  have v73 : IVec S8x1 32 := (broadcastInDim S8x1 ![] bcast_S_S8x1) c_11
  have c_10 : IVec S_ 32 := constantI S_ 32 200#32
  have v71 : IVec S8x1 32 := (broadcastInDim S8x1 ![] bcast_S_S8x1) c_10
  have v72 : IVec S8x1 32 := (subi) v71 v61
  have v74 : IVec S8x1 32 := (subi) v73 v72
  have c_9 : IVec S_ 32 := constantI S_ 32 2147483648#32
  have v69 : IVec S8 32 := (fun x v => Host.reduce IntOp.maxsi x v reducesTo_S8x200_S8_d1 h_S_) v68 c_9
  have v70 : IVec S8x1 32 := (broadcastInDim S8x1 ![0] bcast_S8_S8x1_0) v69
  have c_12 : IVec S_ 32 := constantI S_ 32 1#32
  have v75 : IVec S8x1 32 := (broadcastInDim S8x1 ![] bcast_S_S8x1) c_12
  have v76 : IVec S8x1 32 := (addi) v70 v75
  have v77 : IVec S8x1 32 := (minsi) v74 v76
  have v86 : IVec S8x200 32 := (broadcastInDim S8x200 ![0, 1] bcast_S8x1_S8x200_0_1) v77
  have v82 : IVec S1x200 32 := (broadcastInDim S1x200 ![1] bcast_S200_S1x200_1) v63
  have v83 : IVec S8x200 32 := (broadcastInDim S8x200 ![0, 1] bcast_S1x200_S8x200_0_1) v82
  have v84 : IVec S8x200 32 := (broadcastInDim S8x200 ![0, 1] bcast_S8x1_S8x200_0_1) v61
  have v85 : IVec S8x200 32 := (subi) v83 v84
  have v87 : IVec S8x200 32 := (addi) v86 v85
  v87

set_option maxRecDepth 100000 in
/-- `main_v87` after its stretch is that term of what the stretch read. -/
theorem fillTerm_eq (V : Valuation τ sig (Elt Ideal)) :
    after (hostOps0_12 : List (HloOp τ sig (Elt Ideal))) V (Proc.devRef .tc main_v87) = fillTerm (V (Proc.devRef .tc main_v61)) (V (Proc.devRef .tc main_v68)) (V (Proc.devRef .tc main_v63)) := by
  after_results
  rfl

/-- The selected positions before clipping. -/
def rawTerm (v81 : IVec S8x200 1) (v62 : IVec S8x200 32) (v87 : IVec S8x200 32) : IVec S8x200 32 :=
  have v88 : IVec S8x200 32 := (select) v81 v62 v87
  v88

set_option maxRecDepth 100000 in
/-- `main_v88` after its stretch is that term of what the stretch read. -/
theorem rawTerm_eq (V : Valuation τ sig (Elt Ideal)) :
    after (hostOps0_13 : List (HloOp τ sig (Elt Ideal))) V (Proc.devRef .tc main_v88) = rawTerm (V (Proc.devRef .tc main_v81)) (V (Proc.devRef .tc main_v62)) (V (Proc.devRef .tc main_v87)) := by
  after_results
  rfl

/-- The lower end. -/
def loTerm  : IVec S_ 32 :=
  have c_13 : IVec S_ 32 := constantI S_ 32 0#32
  c_13

set_option maxRecDepth 100000 in
/-- `main_c_13` after its stretch is that term of what the stretch read. -/
theorem loTerm_eq (V : Valuation τ sig (Elt Ideal)) :
    after (hostOps0_14 : List (HloOp τ sig (Elt Ideal))) V (Proc.devRef .tc main_c_13) = loTerm  := by
  after_results
  rfl

/-- The upper end. -/
def hiTerm  : IVec S_ 32 :=
  have c_14 : IVec S_ 32 := constantI S_ 32 2499#32
  c_14

set_option maxRecDepth 100000 in
/-- `main_c_14` after its stretch is that term of what the stretch read. -/
theorem hiTerm_eq (V : Valuation τ sig (Elt Ideal)) :
    after (hostOps0_14 : List (HloOp τ sig (Elt Ideal))) V (Proc.devRef .tc main_c_14) = hiTerm  := by
  after_results
  rfl

/-- The selected positions. -/
def clipTerm (c_14 : IVec S_ 32) (c_13 : IVec S_ 32) (v88 : IVec S8x200 32) : IVec S8x200 32 :=
  have call9_v3 : IVec S_ 32 := (id) c_14
  have call9_v4 : IVec S8x200 32 := (broadcastInDim S8x200 ![] bcast_S_S8x200) call9_v3
  have call9_v0 : IVec S_ 32 := (id) c_13
  have call9_v1 : IVec S8x200 32 := (broadcastInDim S8x200 ![] bcast_S_S8x200) call9_v0
  have call9_v2 : IVec S8x200 32 := (maxsi) call9_v1 v88
  have v89 : IVec S8x200 32 := (minsi) call9_v4 call9_v2
  v89

set_option maxRecDepth 100000 in
/-- `main_v89` after its stretch is that term of what the stretch read. -/
theorem clipTerm_eq (V : Valuation τ sig (Elt Ideal)) :
    after (hostOps0_15 : List (HloOp τ sig (Elt Ideal))) V (Proc.devRef .tc main_v89) = clipTerm (V (Proc.devRef .tc main_c_14)) (V (Proc.devRef .tc main_c_13)) (V (Proc.devRef .tc main_v88)) := by
  after_results
  rfl

/-- The selected values. -/
def out0Term (v89 : IVec S8x200 32) (v0 : FVec Ideal S8x2500 .f32) : FVec Ideal S8x200 .f32 :=
  have call10_c : IVec S_ 32 := constantI S_ 32 0#32
  have call10_v0 : IVec S8x200 32 := (broadcastInDim S8x200 ![] bcast_S_S8x200) call10_c
  have call10_v1 : IVec S8x200 1 := (cmpi .slt) v89 call10_v0
  have call10_c_0 : IVec S_ 32 := constantI S_ 32 2500#32
  have call10_v2 : IVec S8x200 32 := (broadcastInDim S8x200 ![] bcast_S_S8x200) call10_c_0
  have call10_v3 : IVec S8x200 32 := (addi) v89 call10_v2
  have call10_v4 : IVec S8x200 32 := (select) call10_v1 call10_v3 v89
  have call10_v5 : IVec S8x200x1 32 := shapeCast S8x200x1 call10_v4 shapeCasts_S8x200_S8x200x1
  have call10_c_2 : IVec S_ 32 := constantI S_ 32 0#32
  have call10_v6 : IVec S8x200x1 32 := (broadcastInDim S8x200x1 ![] bcast_S_S8x200x1) call10_c_2
  have call10_v7 : IVec S8x200x1 1 := (cmpi .sge) call10_v5 call10_v6
  have call10_c_1 : IVec S1 32 := constantI S1 32 2499#32
  have call10_v8 : IVec S1x1x1 32 := (broadcastInDim S1x1x1 ![2] bcast_S1_S1x1x1_2) call10_c_1
  have call10_v9 : IVec S8x200x1 32 := (broadcastInDim S8x200x1 ![0, 1, 2] bcast_S1x1x1_S8x200x1_0_1_2) call10_v8
  have call10_v10 : IVec S8x200x1 1 := (cmpi .sle) call10_v5 call10_v9
  have call10_v11 : IVec S8x200x1 1 := (andi) call10_v7 call10_v10
  have call10_c_3 : IVec S_ 1 := constantI S_ 1 1#1
  have call10_v12 : IVec S8x200 1 := (fun x v => Host.reduce IntOp.andi x v reducesTo_S8x200x1_S8x200_d2 h_S_) call10_v11 call10_c_3
  have call10_v13 : FVec Ideal S8x200 .f32 := (fun x i => Host.gather gather_S8x2500_S8x200x1_S8x200_n_1_0_0_1_2_11 x i) v0 call10_v5
  have call10_cst : FVec Ideal S_ .f32 := constant S_ .f32 0x7FC00000#32
  have call10_v14 : FVec Ideal S8x200 .f32 := (broadcastInDim S8x200 ![] bcast_S_S8x200) call10_cst
  have v90 : FVec Ideal S8x200 .f32 := (select) call10_v12 call10_v13 call10_v14
  v90

set_option maxRecDepth 100000 in
/-- `main_v90` after its stretch is that term of what the stretch read. -/
theorem out0Term_eq (V : Valuation τ sig (Elt Ideal)) :
    after (hostOps0_16 : List (HloOp τ sig (Elt Ideal))) V (Proc.devRef .tc main_v90) = out0Term (V (Proc.devRef .tc main_v89)) (V (Proc.devRef .tc main_v0)) := by
  after_results
  rfl

/-- The selected positions spread over the four coordinates. -/
def wide2Term (v89 : IVec S8x200 32) : IVec S8x200x4 32 :=
  have v91 : IVec S8x200x1 32 := (broadcastInDim S8x200x1 ![0, 1] bcast_S8x200_S8x200x1_0_1) v89
  have v92 : IVec S8x200x4 32 := (broadcastInDim S8x200x4 ![0, 1, 2] bcast_S8x200x1_S8x200x4_0_1_2) v91
  v92

set_option maxRecDepth 100000 in
/-- `main_v92` after its stretch is that term of what the stretch read. -/
theorem wide2Term_eq (V : Valuation τ sig (Elt Ideal)) :
    after (hostOps0_17 : List (HloOp τ sig (Elt Ideal))) V (Proc.devRef .tc main_v92) = wide2Term (V (Proc.devRef .tc main_v89)) := by
  after_results
  rfl

/-- The selected boxes. -/
def out1Term (v92 : IVec S8x200x4 32) (v3 : FVec Ideal S8x2500x4 .f32) : FVec Ideal S8x200x4 .f32 :=
  have call11_c : IVec S_ 32 := constantI S_ 32 0#32
  have call11_v0 : IVec S8x200x4 32 := (broadcastInDim S8x200x4 ![] bcast_S_S8x200x4) call11_c
  have call11_v1 : IVec S8x200x4 1 := (cmpi .slt) v92 call11_v0
  have call11_c_0 : IVec S_ 32 := constantI S_ 32 2500#32
  have call11_v2 : IVec S8x200x4 32 := (broadcastInDim S8x200x4 ![] bcast_S_S8x200x4) call11_c_0
  have call11_v3 : IVec S8x200x4 32 := (addi) v92 call11_v2
  have call11_v4 : IVec S8x200x4 32 := (select) call11_v1 call11_v3 v92
  have call11_v5 : IVec S8x200x4x1 32 := shapeCast S8x200x4x1 call11_v4 shapeCasts_S8x200x4_S8x200x4x1
  have call11_c_2 : IVec S_ 32 := constantI S_ 32 0#32
  have call11_v6 : IVec S8x200x4x1 32 := (broadcastInDim S8x200x4x1 ![] bcast_S_S8x200x4x1) call11_c_2
  have call11_v7 : IVec S8x200x4x1 1 := (cmpi .sge) call11_v5 call11_v6
  have call11_c_1 : IVec S1 32 := constantI S1 32 2499#32
  have call11_v8 : IVec S1x1x1x1 32 := (broadcastInDim S1x1x1x1 ![3] bcast_S1_S1x1x1x1_3) call11_c_1
  have call11_v9 : IVec S8x200x4x1 32 := (broadcastInDim S8x200x4x1 ![0, 1, 2, 3] bcast_S1x1x1x1_S8x200x4x1_0_1_2_3) call11_v8
  have call11_v10 : IVec S8x200x4x1 1 := (cmpi .sle) call11_v5 call11_v9
  have call11_v11 : IVec S8x200x4x1 1 := (andi) call11_v7 call11_v10
  have call11_c_3 : IVec S_ 1 := constantI S_ 1 1#1
  have call11_v12 : IVec S8x200x4 1 := (fun x v => Host.reduce IntOp.andi x v reducesTo_S8x200x4x1_S8x200x4_d3 h_S_) call11_v11 call11_c_3
  have call11_v13 : FVec Ideal S8x200x4 .f32 := (fun x i => Host.gather gather_S8x2500x4_S8x200x4x1_S8x200x4_n_1_02_02_1_3_111 x i) v3 call11_v5
  have call11_cst : FVec Ideal S_ .f32 := constant S_ .f32 0x7FC00000#32
  have call11_v14 : FVec Ideal S8x200x4 .f32 := (broadcastInDim S8x200x4 ![] bcast_S_S8x200x4) call11_cst
  have v93 : FVec Ideal S8x200x4 .f32 := (select) call11_v12 call11_v13 call11_v14
  v93

set_option maxRecDepth 100000 in
/-- `main_v93` after its stretch is that term of what the stretch read. -/
theorem out1Term_eq (V : Valuation τ sig (Elt Ideal)) :
    after (hostOps0_18 : List (HloOp τ sig (Elt Ideal))) V (Proc.devRef .tc main_v93) = out1Term (V (Proc.devRef .tc main_v92)) (V (Proc.devRef .tc main_v3)) := by
  after_results
  rfl

end Cert.ReferenceIdeal.Body

end
-- ==== Proof.LoopReferenceIdeal.lean ====
/-
  The reference's loop and what follows it, at an index: the loop keeps exactly the survivors' bits, the sort puts the survivors
  first, and every output position's index is the common one.
-/
module

public import proofs.«01_k».proof.Proof.TermsReferenceIdeal
public import proofs.«01_k».proof.Proof.Spec

@[expose] public section

set_option maxRecDepth 16384

noncomputable section

namespace Cert.ReferenceIdeal.Body

open Cert.ReferenceIdeal Cert.ReferenceIdeal.Gen Cert.ReferenceIdeal.Value Cert.Nms
open Idealize.ShloMosaic Idealize.ShloMosaic.TcCoe Idealize.ShloMosaic.StableHlo
open Idealize.SL.Sem

attribute [local instance] Classical.propDecidable

/-- The overlap table, entry by entry. -/
theorem iou_at (x : FVec Ideal S8x2500x4 .f32) (b : Fin 8) (p q : Fin 2500) :
    iouTerm (posTerm x) (quotTerm x) zeroTerm (ix3 b p q) = overlap (fun f => x (ix3 b p f)) (fun f => x (ix3 b q f)) := by
  pointwise [iouTerm, posTerm, quotTerm, zeroTerm, id_eq]
  rfl

/-- One turn of the loop as a term of the bits, the turn, the overlap table and the positions. -/
def stepTerm (K : IVec S8x2500 1) (i : IVec S_ 32) (T : FVec Ideal S8x2500x2500 .f32) (A : IVec S2500 32) : IVec S8x2500 1 :=
  id (andi K (noti (andi (andi (broadcastInDim S8x2500 ![0, 1] bcast_S8x1_S8x2500_0_1 (Host.dynamicSlice S8x1 K (fun k => (((![constantI S_ 32 0#32, select (cmpi .slt i (constantI S_ 32 0#32)) (addi (id i) (constantI S_ 32 2500#32)) i] : Fin 2 → (⟨S_, .i32⟩ : BufTy).Contents (Elt Ideal))) k (Shape.Idx.first h_S_)).toInt) sliceFits_S8x2500_S8x1)) (cmpf .ogt (shapeCast S8x2500 (Host.dynamicSlice S8x1x2500 T (fun k => (((![constantI S_ 32 0#32, select (cmpi .slt i (constantI S_ 32 0#32)) (addi (id i) (constantI S_ 32 2500#32)) i, constantI S_ 32 0#32] : Fin 3 → (⟨S_, .i32⟩ : BufTy).Contents (Elt Ideal))) k (Shape.Idx.first h_S_)).toInt) sliceFits_S8x2500x2500_S8x1x2500) shapeCasts_S8x1x2500_S8x2500) (broadcastInDim S8x2500 ![] bcast_S_S8x2500 (constant S_ .f32 0x3F000000#32)))) (broadcastInDim S8x2500 ![0, 1] bcast_S1x2500_S8x2500_0_1 (broadcastInDim S1x2500 ![1] bcast_S2500_S1x2500_1 (cmpi .sgt A (broadcastInDim S2500 ![] bcast_S_S2500 (id i))))))))

theorem step_eq (V : Valuation τ sig (Elt Ideal)) : step_main_v54_4 V = stepTerm (V (Proc.devRef .tc main_v54_4))
    (V (Proc.devRef .tc main_v54_3)) (V (Proc.devRef .tc main_v54_0)) (V (Proc.devRef .tc main_v54_1)) := rfl

/-- One turn at an index, with the clamped starts evaluated. -/
theorem step_at (K : IVec S8x2500 1) (T : FVec Ideal S8x2500x2500 .f32) (A : IVec S2500 32) (k : ℕ) (hk : k < 2500) (r : Fin 8) (p : Fin 2500) :
    stepTerm K (fun _ => BitVec.ofNat 32 k) T A (ix2 r p) = IntOp.andi (K (ix2 r p)) (~~~IntOp.andi (IntOp.andi (K (ix2 r ⟨k, hk⟩))
      (BitVec.ofBool (decide (Ideal.ofBits .f32 1056964608#32 < T (ix3 r ⟨k, hk⟩ p))))) (IntOp.cmpi .sgt (A (ix1 p)) (BitVec.ofNat 32 k))) := by
  have e0 : BitVec.toInt (0#32) = ((0 : ℕ) : ℤ) := rfl
  have e1 : (Scalar.select (IntOp.cmpi .slt (BitVec.ofNat 32 k) 0#32) (BitVec.ofNat 32 k + 2500#32) (BitVec.ofNat 32 k)).toInt = ((k : ℕ) : ℤ) := by
    rw [wrap_ofNat (by omega), toInt_ofNat32 (by omega)]
  have c20 := fun (h : S8x1.rank = S8x2500.rank) => Host.clampedStart_of_le h (fun k_1 => (((![constantI S_ 32 0#32, select (cmpi .slt (fun _ => BitVec.ofNat 32 k) (constantI S_ 32 0#32)) (addi (fun _ => BitVec.ofNat 32 k) (constantI S_ 32 2500#32)) (fun _ => BitVec.ofNat 32 k)] : Fin 2 → (⟨S_, .i32⟩ : BufTy).Contents (Elt Ideal))) k_1 (Shape.Idx.first h_S_)).toInt) 0 0 e0 (by show 0 + 8 ≤ 8; omega)
  have c21 := fun (h : S8x1.rank = S8x2500.rank) => Host.clampedStart_of_le h (fun k_1 => (((![constantI S_ 32 0#32, select (cmpi .slt (fun _ => BitVec.ofNat 32 k) (constantI S_ 32 0#32)) (addi (fun _ => BitVec.ofNat 32 k) (constantI S_ 32 2500#32)) (fun _ => BitVec.ofNat 32 k)] : Fin 2 → (⟨S_, .i32⟩ : BufTy).Contents (Elt Ideal))) k_1 (Shape.Idx.first h_S_)).toInt) 1 k e1 (by show k + 1 ≤ 2500; omega)
  have c30 := fun (h : S8x1x2500.rank = S8x2500x2500.rank) => Host.clampedStart_of_le h (fun k_1 => (((![constantI S_ 32 0#32, select (cmpi .slt (fun _ => BitVec.ofNat 32 k) (constantI S_ 32 0#32)) (addi (fun _ => BitVec.ofNat 32 k) (constantI S_ 32 2500#32)) (fun _ => BitVec.ofNat 32 k), constantI S_ 32 0#32] : Fin 3 → (⟨S_, .i32⟩ : BufTy).Contents (Elt Ideal))) k_1 (Shape.Idx.first h_S_)).toInt) 0 0 e0 (by show 0 + 8 ≤ 8; omega)
  have c31 := fun (h : S8x1x2500.rank = S8x2500x2500.rank) => Host.clampedStart_of_le h (fun k_1 => (((![constantI S_ 32 0#32, select (cmpi .slt (fun _ => BitVec.ofNat 32 k) (constantI S_ 32 0#32)) (addi (fun _ => BitVec.ofNat 32 k) (constantI S_ 32 2500#32)) (fun _ => BitVec.ofNat 32 k), constantI S_ 32 0#32] : Fin 3 → (⟨S_, .i32⟩ : BufTy).Contents (Elt Ideal))) k_1 (Shape.Idx.first h_S_)).toInt) 1 k e1 (by show k + 1 ≤ 2500; omega)
  have c32 := fun (h : S8x1x2500.rank = S8x2500x2500.rank) => Host.clampedStart_of_le h (fun k_1 => (((![constantI S_ 32 0#32, select (cmpi .slt (fun _ => BitVec.ofNat 32 k) (constantI S_ 32 0#32)) (addi (fun _ => BitVec.ofNat 32 k) (constantI S_ 32 2500#32)) (fun _ => BitVec.ofNat 32 k), constantI S_ 32 0#32] : Fin 3 → (⟨S_, .i32⟩ : BufTy).Contents (Elt Ideal))) k_1 (Shape.Idx.first h_S_)).toInt) 2 0 e0 (by show 0 + 2500 ≤ 2500; omega)
  pointwise [stepTerm, id_eq]
  simp only [c20, c21, c30, c31, c32, Nat.zero_add]

/-- One turn keeps the survivors' bits. -/
theorem step_bit (X : Fin 8 → Fin 2500 → Fin 4 → EReal) (K : IVec S8x2500 1) (T : FVec Ideal S8x2500x2500 .f32) (A : IVec S2500 32)
    (k : ℕ) (hk : k < 2500) (hK : ∀ r p, K (ix2 r p) = bit (alive (covers (X r)) k p))
    (hT : ∀ b p q, T (ix3 b p q) = overlap (X b p) (X b q)) (hA : ∀ p, A (ix1 p) = BitVec.ofNat 32 p) (r : Fin 8) (p : Fin 2500) :
    stepTerm K (fun _ => BitVec.ofNat 32 k) T A (ix2 r p) = bit (alive (covers (X r)) (k + 1) p) := by
  have hp := p.isLt
  rw [step_at K T A k hk, hK, hK, hT, hA, WordCmp.cmpi_sgt_ofNat (by omega) (by omega), ofBool_decide, ofBool_decide, andi_bit, andi_bit,
    noti_bit, andi_bit]
  refine bit_congr ?_
  rw [alive, covers, boxAt_fin, show boxAt (X r) k = X r ⟨k, hk⟩ from boxAt_fin (X r) ⟨k, hk⟩]
  tauto

end Cert.ReferenceIdeal.Body

end
-- ==== Proof.PostReferenceIdeal.lean ====
/-
  What follows the reference's loop, at an index: the sort puts the survivors first, the count is theirs, and every output
  position's index is the common one.
-/
module

public import proofs.«01_k».proof.Proof.LoopReferenceIdeal

@[expose] public section

set_option maxRecDepth 16384

noncomputable section

namespace Cert.ReferenceIdeal.Body

open Cert.ReferenceIdeal Cert.ReferenceIdeal.Gen Cert.ReferenceIdeal.Value Cert.Nms
open Idealize.ShloMosaic Idealize.ShloMosaic.TcCoe Idealize.ShloMosaic.StableHlo
open Idealize.SL.Sem

attribute [local instance] Classical.propDecidable

/-- The smaller of a count and a cap, as words. -/
theorem minsi_ofNat {a b : ℕ} (ha : a < 2 ^ 31) (hb : b < 2 ^ 31) :
    IntOp.minsi (BitVec.ofNat 32 a) (BitVec.ofNat 32 b) = BitVec.ofNat 32 (min a b) := by
  refine BitVec.eq_of_toInt_eq ?_
  rw [toInt_minsi, toInt_ofNat32 ha, toInt_ofNat32 hb, toInt_ofNat32 (by omega)]
  omega

section Post
variable (S : Fin 8 → ℕ → ℕ → Prop) (K : IVec S8x2500 1) (hK : ∀ r p, K (ix2 r p) = bit (kept (S r) p))

include hK in
/-- The sort keys: a survivor's own position, 2500 for the others. -/
theorem key_at (r : Fin 8) (p : Fin 2500) :
    keyTerm K arTerm bigTerm (ix2 r p) = BitVec.ofNat 32 (if kept (S r) p then (p : ℕ) else 2500) := by
  pointwise [keyTerm, arTerm, bigTerm, id_eq]
  rw [hK, select_bit]
  split <;> rfl

include hK in
/-- The sorted keys start with the survivors. -/
theorem front_at (r : Fin 8) (p : Fin 200) (hp : (p : ℕ) < cnt (S r) 2500) :
    frontTerm (sortTerm (keyTerm K arTerm bigTerm)) (ix2 r p) = BitVec.ofNat 32 (pick (S r) p) := by
  have hp2 : (p : ℕ) < 2500 := by have := p.isLt; omega
  have e : frontTerm (sortTerm (keyTerm K arTerm bigTerm)) (ix2 r p)
      = sortTerm (keyTerm K arTerm bigTerm) (ix2 r ⟨p, hp2⟩) := by
    pointwise [frontTerm]
  rw [e]
  refine (sort_at comparator_i32_d1 (keyTerm K arTerm bigTerm) r ⟨p, hp2⟩).trans ?_
  rw [key_at S K hK]
  refine congrArg (BitVec.ofNat 32) (sorted_key (kept (S r)) _ (fun k k' => ?_) ⟨p, hp2⟩ hp)
  rw [key_at S K hK, key_at S K hK]
  have h1 : (if kept (S r) k then (k : ℕ) else 2500) < 2 ^ (32 - 1) := by have := k.isLt; split <;> omega
  have h2 : (if kept (S r) k' then (k' : ℕ) else 2500) < 2 ^ (32 - 1) := by have := k'.isLt; split <;> omega
  refine (congrArg (· == 1#1) ((WordCmp.cmpi_slt_ofNat h1 h2).trans (ofBool_decide _ _))).trans ?_
  by_cases h : (if kept (S r) k then (k : ℕ) else 2500) < if kept (S r) k' then (k' : ℕ) else 2500
  · rw [bit_true h, decide_eq_true h]; rfl
  · rw [bit_false h, decide_eq_false h]; rfl

include hK in
/-- The number of selected boxes. -/
theorem num_at (r : Fin 8) (z : Fin 1) : numTerm K (ix2 r z) = BitVec.ofNat 32 (total (S r)) := by
  pointwise [numTerm]
  have e : (Finset.univ.fold IntOp.addi 0#32 fun k => BitVec.setWidth 32 (K (ix2 r k))) = BitVec.ofNat 32 (cnt (S r) 2500) := by
    refine (IndicatorCount.fold_addi_setWidth_eq_card _ _).trans (congrArg (BitVec.ofNat 32) ?_)
    rw [cnt, Nat.count_eq_card_filter_range]
    refine Finset.card_bij (fun (k : Fin 2500) _ => (k : ℕ)) ?_ (fun a _ b _ h => Fin.ext h) ?_
    · intro k hk
      have hk := (Finset.mem_filter.mp hk).2
      rw [hK, bit_eq_one] at hk
      exact Finset.mem_filter.mpr ⟨Finset.mem_range.mpr k.isLt, hk⟩
    · intro k hk
      obtain ⟨h1, h2⟩ := Finset.mem_filter.mp hk
      refine ⟨⟨k, Finset.mem_range.mp h1⟩, Finset.mem_filter.mpr ⟨Finset.mem_univ _, ?_⟩, rfl⟩
      rw [hK, bit_eq_one]
      exact h2
  have hc := cnt_le (S r) 2500
  exact (congrArg (IntOp.minsi · 200#32) e).trans (minsi_ofNat (by omega) (by omega))

include hK in
/-- The survivors in front, zero elsewhere. -/
theorem mask_at (r : Fin 8) (p : Fin 200) :
    maskTerm (liveTerm K) (frontTerm (sortTerm (keyTerm K arTerm bigTerm))) zero8Term (ix2 r p)
      = BitVec.ofNat 32 (if (p : ℕ) < total (S r) then pick (S r) p else 0) := by
  have e : liveTerm K (ix2 r p) = IntOp.cmpi .slt (BitVec.ofNat 32 p) (numTerm K (ix2 r 0)) := by
    pointwise [liveTerm, numTerm]
  have ht := total_le (S r)
  have hp := p.isLt
  pointwise [maskTerm, zero8Term, id_eq]
  rw [e, num_at S K hK, WordCmp.cmpi_slt_ofNat (by omega) (by omega), ofBool_decide, select_bit]
  split
  case isTrue h => exact front_at S K hK r p (lt_of_lt_of_le h (total_le_cnt _))
  case isFalse h => rfl

include hK in
/-- The last survivor selected. -/
theorem last_at (r : Fin 8) : (Finset.univ.fold IntOp.maxsi 2147483648#32 fun k : Fin 200 =>
    maskTerm (liveTerm K) (frontTerm (sortTerm (keyTerm K arTerm bigTerm))) zero8Term (ix2 r k))
      = BitVec.ofNat 32 (pick (S r) (total (S r) - 1)) := by
  have h0 := total_pos (S r)
  have h1 := total_le (S r)
  have h2 := total_le_cnt (S r)
  have hl : ∀ p, p < total (S r) → pick (S r) p < 2500 := fun p hp => pick_lt _ (show p < cnt (S r) 2500 by omega)
  have hz : total (S r) - 1 < 200 := by omega
  rw [fold_maxsi_of_greatest _ ⟨total (S r) - 1, hz⟩ ?_]
  · rw [mask_at S K hK, if_pos (show total (S r) - 1 < total (S r) by omega)]
  · intro k
    have hm := hl (total (S r) - 1) (by omega)
    rw [mask_at S K hK, mask_at S K hK, if_pos (show total (S r) - 1 < total (S r) by omega)]
    show _ ≤ (BitVec.ofNat 32 (pick (S r) (total (S r) - 1))).toInt
    by_cases hk : (k : ℕ) < total (S r)
    · have := hl k hk
      have hmono := pick_mono (S r) (show (k : ℕ) ≤ total (S r) - 1 by omega) (show total (S r) - 1 < cnt (S r) 2500 by omega)
      rw [if_pos hk, toInt_ofNat32 (by omega), toInt_ofNat32 (by omega)]
      omega
    · rw [if_neg hk, toInt_ofNat32 (by omega), toInt_ofNat32 (by omega)]
      omega

include hK in
/-- Every output position's index is the common one. -/
theorem slot_at (r : Fin 8) (p : Fin 200) :
    clipTerm hiTerm loTerm (rawTerm (live2Term laneTerm (numTerm K)) (frontTerm (sortTerm (keyTerm K arTerm bigTerm)))
      (fillTerm (numTerm K) (maskTerm (liveTerm K) (frontTerm (sortTerm (keyTerm K arTerm bigTerm))) zero8Term) laneTerm)) (ix2 r p)
      = BitVec.ofNat 32 (slot (S r) p) := by
  rw [← slotOf_eq]
  have hp := p.isLt
  refine Eq.trans ?_ (slotWord_congr (by omega) (num_at S K hK r 0) (last_at S K hK r)
    (fun h => front_at S K hK r p (lt_of_lt_of_le h (total_le_cnt _))))
  pointwise [clipTerm, hiTerm, loTerm, rawTerm, live2Term, laneTerm, fillTerm, id_eq]
  rfl

end Post

end Cert.ReferenceIdeal.Body

end
-- ==== Proof.TakeReferenceIdeal.lean ====
/-
  The reference's four reads along an index array, at an index: where the index array holds a position inside the row, the
  result is the operand's entry at that position.
-/
module

public import proofs.«01_k».proof.Proof.TermsReferenceIdeal
public import proofs.«01_k».proof.Proof.Gather

@[expose] public section

set_option maxRecDepth 16384

noncomputable section

namespace Cert.ReferenceIdeal.Body

open Cert.ReferenceIdeal Cert.ReferenceIdeal.Gen Cert.ReferenceIdeal.Value Cert.Nms
open Idealize.ShloMosaic Idealize.ShloMosaic.TcCoe Idealize.ShloMosaic.StableHlo
open Idealize.SL.Sem

/-- The first values, read through the index array. -/
theorem conf_at (x : FVec Ideal S8x5000 .f32) (I : IVec S8x2500 32) (b : Fin 8) (p : Fin 2500) (q : Fin 5000)
    (h : I (ix2 b p) = BitVec.ofNat 32 q) : confTerm I x (ix2 b p) = x (ix2 b q) := by
  have hq : (q : ℕ) < 2 ^ 31 := by have := q.isLt; norm_num; omega
  pointwise [confTerm]
  refine (congrArg₂ (Scalar.select · · _) (fold_andi_one _ _ fun k _ => ?_) (gather_row2 (by norm_num) _ x _ b p q ?_)).trans
    (WordCmp.select_one _ _)
  · rw [h, wrap_ofNat hq]
    exact inside_ofNat (by have := q.isLt; omega) (by norm_num)
  · pointwise
    rw [h, wrap_ofNat hq]

/-- The boxes, read through the index array. -/
theorem box_at (x : FVec Ideal S8x5000x4 .f32) (I : IVec S8x2500x4 32) (b : Fin 8) (p : Fin 2500) (f : Fin 4) (q : Fin 5000)
    (h : I (ix3 b p f) = BitVec.ofNat 32 q) : boxTerm I x (ix3 b p f) = x (ix3 b q f) := by
  have hq : (q : ℕ) < 2 ^ 31 := by have := q.isLt; norm_num; omega
  pointwise [boxTerm]
  refine (congrArg₂ (Scalar.select · · _) (fold_andi_one _ _ fun k _ => ?_) (gather_row3 (by norm_num) _ x _ b p f q ?_)).trans
    (WordCmp.select_one _ _)
  · rw [h, wrap_ofNat hq]
    exact inside_ofNat (by have := q.isLt; omega) (by norm_num)
  · pointwise
    rw [h, wrap_ofNat hq]

/-- The first result: the first values, read through the selected positions. -/
theorem out0_at (x : FVec Ideal S8x2500 .f32) (I : IVec S8x200 32) (b : Fin 8) (p : Fin 200) (q : Fin 2500)
    (h : I (ix2 b p) = BitVec.ofNat 32 q) : out0Term I x (ix2 b p) = x (ix2 b q) := by
  have hq : (q : ℕ) < 2 ^ 31 := by have := q.isLt; norm_num; omega
  pointwise [out0Term]
  refine (congrArg₂ (Scalar.select · · _) (fold_andi_one _ _ fun k _ => ?_) (gather_row2 (by norm_num) _ x _ b p q ?_)).trans
    (WordCmp.select_one _ _)
  · rw [h, wrap_ofNat hq]
    exact inside_ofNat (by have := q.isLt; omega) (by norm_num)
  · pointwise
    rw [h, wrap_ofNat hq]

/-- The second result: the boxes, read through the selected positions. -/
theorem out1_at (x : FVec Ideal S8x2500x4 .f32) (I : IVec S8x200x4 32) (b : Fin 8) (p : Fin 200) (f : Fin 4) (q : Fin 2500)
    (h : I (ix3 b p f) = BitVec.ofNat 32 q) : out1Term I x (ix3 b p f) = x (ix3 b q f) := by
  have hq : (q : ℕ) < 2 ^ 31 := by have := q.isLt; norm_num; omega
  pointwise [out1Term]
  refine (congrArg₂ (Scalar.select · · _) (fold_andi_one _ _ fun k _ => ?_) (gather_row3 (by norm_num) _ x _ b p f q ?_)).trans
    (WordCmp.select_one _ _)
  · rw [h, wrap_ofNat hq]
    exact inside_ofNat (by have := q.isLt; omega) (by norm_num)
  · pointwise
    rw [h, wrap_ofNat hq]

/-- The index array spread over the coordinates. -/
theorem wide_at (I : IVec S8x2500 32) (b : Fin 8) (p : Fin 2500) (f : Fin 4) : wideTerm I (ix3 b p f) = I (ix2 b p) := by
  pointwise [wideTerm]

/-- The selected positions spread over the coordinates. -/
theorem wide2_at (I : IVec S8x200 32) (b : Fin 8) (p : Fin 200) (f : Fin 4) : wide2Term I (ix3 b p f) = I (ix2 b p) := by
  pointwise [wide2Term]

end Cert.ReferenceIdeal.Body

end
-- ==== Proof.ValueReferenceIdeal.lean ====
/-
  The reference's two results at an index, from the launch arguments: the value, and the box, standing at the common index of
  the output position among the boxes taken in order of their values.
-/
module

public import proofs.«01_k».proof.Proof.PostReferenceIdeal
public import proofs.«01_k».proof.Proof.TakeReferenceIdeal
public import proofs.«01_k».proof.Proof.ArgsReferenceIdeal

@[expose] public section

set_option maxRecDepth 16384

noncomputable section

namespace Cert.ReferenceIdeal.Body

open Cert.ReferenceIdeal Cert.ReferenceIdeal.Gen Cert.ReferenceIdeal.Value Cert.Nms
open Idealize.ShloMosaic Idealize.ShloMosaic.TcCoe Idealize.ShloMosaic.StableHlo
open Idealize.SL.Sem

attribute [local instance] Classical.propDecidable

/-- The positions of the largest values. -/
def idxTerm (x : FVec Ideal S8x5000 .f32) : IVec S8x2500 32 :=
  (Host.topK S8x2500 1 (FloatOps.cmpfTotal .gt) x sliceFits_S8x5000_S8x2500).2

/-- The index array after its stretch. -/
theorem idxTerm_eq (V : Valuation τ sig (Elt Ideal)) :
    after (hostOps0 : List (HloOp τ sig (Elt Ideal))) V (Proc.devRef .tc main_indices) = idxTerm (V (Proc.devRef .tc main_arg0)) := by
  after_results
  rfl

/-- `main_v0` when the loop is reached. -/
theorem pre_v0 (V : Valuation τ sig (Elt Ideal)) :
    afterL preI V (Proc.devRef .tc main_v0) = (confTerm (idxTerm (V (Proc.devRef .tc main_arg0))) (V (Proc.devRef .tc main_arg0))) := by
  simp only [preI, afterL_cons, afterL_nil]
  rw [keep_hostOps0_6 (r := main_v0) _ (by decide), keep_hostOps0_5 (r := main_v0) _ (by decide), keep_hostOps0_4 (r := main_v0) _ (by decide), keep_hostOps0_3 (r := main_v0) _ (by decide), keep_hostOps0_2 (r := main_v0) _ (by decide), confTerm_eq, idxTerm_eq, keep_hostOps0 (r := main_arg0) _ (by decide)]

/-- `main_v3` when the loop is reached. -/
theorem pre_v3 (V : Valuation τ sig (Elt Ideal)) :
    afterL preI V (Proc.devRef .tc main_v3) = (boxTerm (wideTerm (idxTerm (V (Proc.devRef .tc main_arg0)))) (V (Proc.devRef .tc main_arg1))) := by
  simp only [preI, afterL_cons, afterL_nil]
  rw [keep_hostOps0_6 (r := main_v3) _ (by decide), keep_hostOps0_5 (r := main_v3) _ (by decide), keep_hostOps0_4 (r := main_v3) _ (by decide), boxTerm_eq, wideTerm_eq, keep_hostOps0_2 (r := main_arg1) _ (by decide), keep_hostOps0_1 (r := main_indices) _ (by decide), keep_hostOps0_1 (r := main_arg1) _ (by decide), idxTerm_eq, keep_hostOps0 (r := main_arg1) _ (by decide)]

/-- `main_v52` when the loop is reached. -/
theorem pre_v52 (V : Valuation τ sig (Elt Ideal)) :
    afterL preI V (Proc.devRef .tc main_v52) = arTerm := by
  simp only [preI, afterL_cons, afterL_nil]
  rw [arTerm_eq]

/-- `main_v54_0` when the loop is reached. -/
theorem pre_v54_0 (V : Valuation τ sig (Elt Ideal)) :
    afterL preI V (Proc.devRef .tc main_v54_0) = (ent0Term (iouTerm (posTerm (boxTerm (wideTerm (idxTerm (V (Proc.devRef .tc main_arg0)))) (V (Proc.devRef .tc main_arg1)))) (quotTerm (boxTerm (wideTerm (idxTerm (V (Proc.devRef .tc main_arg0)))) (V (Proc.devRef .tc main_arg1)))) zeroTerm)) := by
  simp only [preI, afterL_cons, afterL_nil]
  rw [ent0Term_eq, iouTerm_eq, posTerm_eq, quotTerm_eq, zeroTerm_eq, boxTerm_eq, wideTerm_eq, keep_hostOps0_2 (r := main_arg1) _ (by decide), keep_hostOps0_1 (r := main_indices) _ (by decide), keep_hostOps0_1 (r := main_arg1) _ (by decide), idxTerm_eq, keep_hostOps0 (r := main_arg1) _ (by decide)]

/-- `main_v54_1` when the loop is reached. -/
theorem pre_v54_1 (V : Valuation τ sig (Elt Ideal)) :
    afterL preI V (Proc.devRef .tc main_v54_1) = ent1Term := by
  simp only [preI, afterL_cons, afterL_nil]
  rw [ent1Term_eq]

/-- `main_v54_3` when the loop is reached. -/
theorem pre_v54_3 (V : Valuation τ sig (Elt Ideal)) :
    afterL preI V (Proc.devRef .tc main_v54_3) = ent3Term := by
  simp only [preI, afterL_cons, afterL_nil]
  rw [ent3Term_eq]

/-- `main_v54_4` when the loop is reached. -/
theorem pre_v54_4 (V : Valuation τ sig (Elt Ideal)) :
    afterL preI V (Proc.devRef .tc main_v54_4) = ent4Term := by
  simp only [preI, afterL_cons, afterL_nil]
  rw [ent4Term_eq]

/-- `main_v90` from the contents after the loop. -/
theorem post_v90 (V : Valuation τ sig (Elt Ideal)) :
    afterL postI V (Proc.devRef .tc main_v90) = (out0Term (clipTerm hiTerm loTerm (rawTerm (live2Term laneTerm (numTerm (V (Proc.devRef .tc main_v54_4)))) (frontTerm (sortTerm (keyTerm (V (Proc.devRef .tc main_v54_4)) (V (Proc.devRef .tc main_v52)) bigTerm))) (fillTerm (numTerm (V (Proc.devRef .tc main_v54_4))) (maskTerm (liveTerm (V (Proc.devRef .tc main_v54_4))) (frontTerm (sortTerm (keyTerm (V (Proc.devRef .tc main_v54_4)) (V (Proc.devRef .tc main_v52)) bigTerm))) zero8Term) laneTerm))) (V (Proc.devRef .tc main_v0))) := by
  simp only [postI, afterL_cons, afterL_nil]
  rw [keep_hostOps0_18 (r := main_v90) _ (by decide), keep_hostOps0_17 (r := main_v90) _ (by decide), out0Term_eq, clipTerm_eq, keep_hostOps0_15 (r := main_v0) _ (by decide), hiTerm_eq, loTerm_eq, keep_hostOps0_14 (r := main_v88) _ (by decide), keep_hostOps0_14 (r := main_v0) _ (by decide), rawTerm_eq, keep_hostOps0_13 (r := main_v0) _ (by decide), live2Term_eq, keep_hostOps0_12 (r := main_v62) _ (by decide), fillTerm_eq, keep_hostOps0_12 (r := main_v0) _ (by decide), keep_hostOps0_11 (r := main_v63) _ (by decide), keep_hostOps0_11 (r := main_v61) _ (by decide), keep_hostOps0_11 (r := main_v62) _ (by decide), maskTerm_eq, keep_hostOps0_11 (r := main_v0) _ (by decide), laneTerm_eq, numTerm_eq, frontTerm_eq, liveTerm_eq, zero8Term_eq, keep_hostOps0_10 (r := main_v0) _ (by decide), keep_hostOps0_9 (r := main_v54_4) _ (by decide), sortTerm_eq, keep_hostOps0_9 (r := main_v0) _ (by decide), keep_hostOps0_8 (r := main_v54_4) _ (by decide), keyTerm_eq, keep_hostOps0_8 (r := main_v0) _ (by decide), keep_hostOps0_7 (r := main_v54_4) _ (by decide), keep_hostOps0_7 (r := main_v52) _ (by decide), bigTerm_eq, keep_hostOps0_7 (r := main_v0) _ (by decide)]

/-- `main_v93` from the contents after the loop. -/
theorem post_v93 (V : Valuation τ sig (Elt Ideal)) :
    afterL postI V (Proc.devRef .tc main_v93) = (out1Term (wide2Term (clipTerm hiTerm loTerm (rawTerm (live2Term laneTerm (numTerm (V (Proc.devRef .tc main_v54_4)))) (frontTerm (sortTerm (keyTerm (V (Proc.devRef .tc main_v54_4)) (V (Proc.devRef .tc main_v52)) bigTerm))) (fillTerm (numTerm (V (Proc.devRef .tc main_v54_4))) (maskTerm (liveTerm (V (Proc.devRef .tc main_v54_4))) (frontTerm (sortTerm (keyTerm (V (Proc.devRef .tc main_v54_4)) (V (Proc.devRef .tc main_v52)) bigTerm))) zero8Term) laneTerm)))) (V (Proc.devRef .tc main_v3))) := by
  simp only [postI, afterL_cons, afterL_nil]
  rw [out1Term_eq, wide2Term_eq, keep_hostOps0_17 (r := main_v3) _ (by decide), keep_hostOps0_16 (r := main_v89) _ (by decide), keep_hostOps0_16 (r := main_v3) _ (by decide), clipTerm_eq, keep_hostOps0_15 (r := main_v3) _ (by decide), hiTerm_eq, loTerm_eq, keep_hostOps0_14 (r := main_v88) _ (by decide), keep_hostOps0_14 (r := main_v3) _ (by decide), rawTerm_eq, keep_hostOps0_13 (r := main_v3) _ (by decide), live2Term_eq, keep_hostOps0_12 (r := main_v62) _ (by decide), fillTerm_eq, keep_hostOps0_12 (r := main_v3) _ (by decide), keep_hostOps0_11 (r := main_v63) _ (by decide), keep_hostOps0_11 (r := main_v61) _ (by decide), keep_hostOps0_11 (r := main_v62) _ (by decide), maskTerm_eq, keep_hostOps0_11 (r := main_v3) _ (by decide), laneTerm_eq, numTerm_eq, frontTerm_eq, liveTerm_eq, zero8Term_eq, keep_hostOps0_10 (r := main_v3) _ (by decide), keep_hostOps0_9 (r := main_v54_4) _ (by decide), sortTerm_eq, keep_hostOps0_9 (r := main_v3) _ (by decide), keep_hostOps0_8 (r := main_v54_4) _ (by decide), keyTerm_eq, keep_hostOps0_8 (r := main_v3) _ (by decide), keep_hostOps0_7 (r := main_v54_4) _ (by decide), keep_hostOps0_7 (r := main_v52) _ (by decide), bigTerm_eq, keep_hostOps0_7 (r := main_v3) _ (by decide)]

/-- A turn of the loop leaves alone what it does not write. -/
theorem trip_keep (X : Valuation τ sig (Elt Ideal)) {r : Ref sig .tc} (h0 : r ∉ while0Ops0_W) (h1 : r ∉ while0Ops0_1_W) (h2 : r ∉ while0Ops0_2_W)
    (h3 : r ∉ while0Ops0_3_W) (h4 : r ∉ condOps_W) : afterL bodyI (after condOps X) (Proc.devRef .tc r) = X (Proc.devRef .tc r) := by
  simp only [bodyI, afterL_cons, afterL_nil]
  exact (keep_while0Ops0_3 _ h3).trans <| (keep_while0Ops0_2 _ h2).trans <| (keep_while0Ops0_1 _ h1).trans <| (keep_while0Ops0 _ h0).trans <|
    keep_condOps _ h4

section Run
variable (m : (ℓ : Loc nD τ sig) → Buf (Elt Ideal) ℓ) (c : Dev nD)

/-- So the whole loop leaves it alone. -/
theorem loop_keep {r : Ref sig .tc} (h0 : r ∉ while0Ops0_W) (h1 : r ∉ while0Ops0_1_W) (h2 : r ∉ while0Ops0_2_W)
    (h3 : r ∉ while0Ops0_3_W) (h4 : r ∉ condOps_W) : ∀ k, atK m k c (Proc.devRef .tc r) = entryContents preI m c (Proc.devRef .tc r)
  | 0 => rfl
  | k + 1 => (trip_keep _ h0 h1 h2 h3 h4).trans (loop_keep h0 h1 h2 h3 h4 k)

/-- The value argument at launch. -/
abbrev A0 : FVec Ideal S8x5000 .f32 := m ((c : Thread nD τ).loc main_arg0)
/-- The box argument at launch. -/
abbrev A1 : FVec Ideal S8x5000x4 .f32 := m ((c : Thread nD τ).loc main_arg1)
/-- The boxes in order of their values. -/
abbrev boxes : FVec Ideal S8x2500x4 .f32 := boxTerm (wideTerm (idxTerm (A0 m c))) (A1 m c)
/-- The boxes of one batch row. -/
def rows (b : Fin 8) (p : Fin 2500) (f : Fin 4) : EReal := boxes m c (ix3 b p f)

/-- The overlap table when the loop is reached. -/
theorem table : entryContents preI m c (Proc.devRef .tc main_v54_0) = iouTerm (posTerm (boxes m c)) (quotTerm (boxes m c)) zeroTerm := by
  refine (pre_v54_0 _).trans ?_
  rw [ent0Term, id_eq]

/-- Before turn `k` the loop carries the turn, the table, the positions and the survivors' bits. -/
theorem iter_at : ∀ k, k ≤ 2500 →
    (STEP^[k] (entryContents preI m c)) (Proc.devRef .tc main_v54_3) = (fun _ => BitVec.ofNat 32 k : IVec S_ 32)
    ∧ (STEP^[k] (entryContents preI m c)) (Proc.devRef .tc main_v54_0) = entryContents preI m c (Proc.devRef .tc main_v54_0)
    ∧ (STEP^[k] (entryContents preI m c)) (Proc.devRef .tc main_v54_1) = entryContents preI m c (Proc.devRef .tc main_v54_1)
    ∧ ∀ r p, ((STEP^[k] (entryContents preI m c)) (Proc.devRef .tc main_v54_4) : IVec S8x2500 1) (ix2 r p)
        = bit (alive (covers (rows m c r)) k p)
  | 0, _ => by
    refine ⟨(pre_v54_3 _).trans rfl, rfl, rfl, fun r p => ?_⟩
    refine (congrFun (pre_v54_4 _) (ix2 r p)).trans ?_
    exact (bit_true trivial).symm
  | k + 1, h => by
    obtain ⟨h3, h0, h1, h4⟩ := iter_at k (by omega)
    rw [Function.iterate_succ_apply']
    refine ⟨?_, (STEP_main_v54_0 _).trans h0, (STEP_main_v54_1 _).trans h1, fun r p => ?_⟩
    · refine (STEP_main_v54_3 _).trans ?_
      show (id (addi (STEP^[k] (entryContents preI m c) (Proc.devRef .tc main_v54_3)) (constantI S_ 32 1#32)) : IVec S_ 32) = _
      rw [h3]
      funext z
      exact (BitVec.ofNat_add ..).symm
    · refine (congrFun ((STEP_main_v54_4 _).trans (step_eq _)) (ix2 r p)).trans ?_
      rw [h3, h0, h1]
      refine step_bit (rows m c) _ _ _ k (by omega) h4 (fun b p q => ?_) (fun p => ?_) r p
      · rw [table m c]
        exact iou_at (boxes m c) b p q
      · exact congrFun (pre_v54_1 _) (ix1 p)

/-- The survivors' bits after the loop. -/
theorem keep_at (r : Fin 8) (p : Fin 2500) :
    (after condOps (atTrip condOps bodyI (entryContents preI m) 2500 c) (Proc.devRef .tc main_v54_4) : IVec S8x2500 1) (ix2 r p)
      = bit (kept (covers (rows m c r)) p) := by
  refine (congrFun ((cond_keeps _ main_v54_4 (by decide)).trans (atK_agree m c 2500 main_v54_4 (by decide))) (ix2 r p)).trans ?_
  rw [(iter_at m c 2500 le_rfl).2.2.2 r p]
  exact bit_congr (alive_of_le _ p.isLt.le)

/-- What the loop does not carry is there after it. -/
theorem exit_v52 : after condOps (atTrip condOps bodyI (entryContents preI m) 2500 c) (Proc.devRef .tc main_v52) = arTerm :=
  (keep_condOps _ (by decide)).trans <| (loop_keep m c (by decide) (by decide) (by decide) (by decide) (by decide) 2500).trans (pre_v52 _)
theorem exit_v0 : after condOps (atTrip condOps bodyI (entryContents preI m) 2500 c) (Proc.devRef .tc main_v0)
    = confTerm (idxTerm (A0 m c)) (A0 m c) :=
  (keep_condOps _ (by decide)).trans <| (loop_keep m c (by decide) (by decide) (by decide) (by decide) (by decide) 2500).trans (pre_v0 _)
theorem exit_v3 : after condOps (atTrip condOps bodyI (entryContents preI m) 2500 c) (Proc.devRef .tc main_v3) = boxes m c :=
  (keep_condOps _ (by decide)).trans <| (loop_keep m c (by decide) (by decide) (by decide) (by decide) (by decide) 2500).trans (pre_v3 _)

variable (q : Fin 8 → Fin 2500 → Fin 5000)
  (hq : ∀ b p, idxTerm (A0 m c) (ix2 b p) = BitVec.ofNat 32 (q b p))

include hq in
/-- The boxes in order of their values, at an index. -/
theorem rows_eq (b : Fin 8) : rows m c b = fun p f => A1 m c (ix3 b (q b p) f) := by
  funext p f
  exact box_at _ _ b p f (q b p) ((wide_at _ b p f).trans (hq b p))

include hq in
/-- THE REFERENCE'S FIRST RESULT at an index. -/
theorem value0 (b : Fin 8) (p : Fin 200) :
    (finalContents condOps preI bodyI postI 2500 m c (Proc.devRef .tc main_v90) : FVec Ideal S8x200 .f32) (ix2 b p)
      = A0 m c (ix2 b (q b (slot (covers fun p f => A1 m c (ix3 b (q b p) f)) p))) := by
  refine (congrFun (post_v90 _) (ix2 b p)).trans ?_
  rw [exit_v52, exit_v0]
  refine (out0_at _ _ b p _ (slot_at (fun r => covers (rows m c r)) _ (keep_at m c) b p)).trans ?_
  rw [conf_at _ _ b _ _ (hq b _), rows_eq m c q hq]

include hq in
/-- THE REFERENCE'S SECOND RESULT at an index. -/
theorem value1 (b : Fin 8) (p : Fin 200) (f : Fin 4) :
    (finalContents condOps preI bodyI postI 2500 m c (Proc.devRef .tc main_v93) : FVec Ideal S8x200x4 .f32) (ix3 b p f)
      = A1 m c (ix3 b (q b (slot (covers fun p f => A1 m c (ix3 b (q b p) f)) p)) f) := by
  refine (congrFun (post_v93 _) (ix3 b p f)).trans ?_
  rw [exit_v52, exit_v3]
  refine (out1_at _ _ b p f _ ((wide2_at _ b p f).trans (slot_at (fun r => covers (rows m c r)) _ (keep_at m c) b p))).trans ?_
  show rows m c b _ f = _
  rw [rows_eq m c q hq]

end Run

end Cert.ReferenceIdeal.Body

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal.Run
public import proofs.«01_k».proof.Proof.Gen.ReferenceIdeal
public import proofs.«01_k».proof.Proof.ArgsKernel
public import proofs.«01_k».proof.Proof.ArgsKernelIdeal
public import proofs.«01_k».proof.Proof.ValueKernelIdeal
public import proofs.«01_k».proof.Proof.ArgsReferenceIdeal
public import proofs.«01_k».proof.Proof.ValueReferenceIdeal
public import Idealize.ShloMosaic.Adequacy
public import Idealize.ShloMosaic.Init

@[expose] public section

set_option maxRecDepth 16384

noncomputable section

namespace Cert.Proof

open Idealize.ShloMosaic Idealize.SL.Sem

/-- The kernel's frame. -/
theorem frame_kernel : Cert.quiescent_Kernel := fun m g _ => Cert.Kernel.Body.frame_main (F := Bits) m g

/-- The idealized kernel's frame. -/
theorem frame_kernelIdeal : Cert.quiescent_KernelIdeal := fun m g _ => Cert.KernelIdeal.Body.frame_main (F := Ideal) m g

/-- The idealized reference's frame. -/
theorem frame_referenceIdeal : Cert.quiescent_ReferenceIdeal := fun m g _ =>
  (θ_run Cert.ReferenceIdeal.defs _ _).mono (fun r h => ⟨fun c => (h.1 c).2.2, h.2⟩) (Cert.ReferenceIdeal.Body.run_main (F := Ideal) m g)

/-- The two programs' results agree: both are the value, and the box, at the common index of the output position. -/
theorem algebraic : Cert.algebraic_KernelIdeal_ReferenceIdeal := by
  intro m g m' g' _ hargs
  have key : ∀ c,
      StableHlo.finalContents Cert.ReferenceIdeal.Value.condOps Cert.ReferenceIdeal.Value.preI Cert.ReferenceIdeal.Value.bodyI
        Cert.ReferenceIdeal.Value.postI 2500 m' c (Proc.devRef .tc Cert.ReferenceIdeal.main_v90)
          = Cert.KernelIdeal.Body.tailV m c Cert.KernelIdeal.main_v32
      ∧ StableHlo.finalContents Cert.ReferenceIdeal.Value.condOps Cert.ReferenceIdeal.Value.preI Cert.ReferenceIdeal.Value.bodyI
        Cert.ReferenceIdeal.Value.postI 2500 m' c (Proc.devRef .tc Cert.ReferenceIdeal.main_v93)
          = Cert.KernelIdeal.Body.tailV m c Cert.KernelIdeal.main_v34 := by
    intro c
    have e0 : Cert.ReferenceIdeal.Body.A0 m' c = Cert.KernelIdeal.Body.A0 m c := (hargs c).1
    have e1 : Cert.ReferenceIdeal.Body.A1 m' c = Cert.KernelIdeal.Body.A1 m c := (hargs c).2
    obtain ⟨q, hq⟩ := Cert.Nms.topK_at (FloatOps.cmpfTotal .gt) Cert.KernelIdeal.Gen.sliceFits_S8x5000_S8x2500 (Cert.KernelIdeal.Body.A0 m c)
    have hr : ∀ b p, Cert.ReferenceIdeal.Body.idxTerm (Cert.ReferenceIdeal.Body.A0 m' c) (ix2 b p) = BitVec.ofNat 32 (q b p) := by
      intro b p
      rw [e0]
      exact (hq b p).2
    constructor
    · funext i
      idx_vars i
      refine (Cert.ReferenceIdeal.Body.value0 m' c q hr _ _).trans ?_
      rw [e0, e1]
      exact (Cert.KernelIdeal.Body.value0 m c q (fun b p => (hq b p).1) (fun b p => (hq b p).2) _ _).symm
    · funext i
      idx_vars i
      refine (Cert.ReferenceIdeal.Body.value1 m' c q hr _ _ _).trans ?_
      rw [e1]
      exact (Cert.KernelIdeal.Body.value1 m c q (fun b p => (hq b p).2) _ _ _).symm
  refine ⟨fun c => Cert.KernelIdeal.Body.tailV m c Cert.KernelIdeal.main_v32, fun c => Cert.KernelIdeal.Body.tailV m c Cert.KernelIdeal.main_v34,
    (θ_run Cert.KernelIdeal.defs _ _).mono (fun r h c => ?_) (Cert.KernelIdeal.Body.run_main (F := Ideal) m g),
    (θ_run Cert.ReferenceIdeal.defs _ _).mono (fun r h c => ?_) (Cert.ReferenceIdeal.Body.run_main (F := Ideal) m' g')⟩
  · exact ⟨(h.1 c).2 Cert.KernelIdeal.main_v32 Cert.KernelIdeal.Body.args_rest.2.2.1,
      (h.1 c).2 Cert.KernelIdeal.main_v34 Cert.KernelIdeal.Body.args_rest.2.2.2,
      ((h.1 c).2 Cert.KernelIdeal.main_arg0 Cert.KernelIdeal.Body.args_rest.1).trans (Cert.KernelIdeal.Body.tail_arg0 m c),
      ((h.1 c).2 Cert.KernelIdeal.main_arg1 Cert.KernelIdeal.Body.args_rest.2.1).trans (Cert.KernelIdeal.Body.tail_arg1 m c)⟩
  · exact ⟨(h.1 c).1.trans (key c).1, (h.1 c).2.1.trans (key c).2, (h.1 c).2.2⟩

theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
